-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  bcast_S_S1024x64 : S_.BroadcastsInDim S1024x64 (![] : Fin 0 → Fin S1024x64.rank)

variable [Facts]

def fn {F : FTy → Type} [FloatOps F] (main_arg0 : FVec F S16x64x32x32 .f32) (main_arg1 : FVec F S1024x64 .f32) : IVec S16x64x32x32 1 × IVec S1024x64 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S_ : Shape := ⟨0, ![]⟩
abbrev S64x1024 : Shape := ⟨2, ![64, 1024]⟩
abbrev S16x1x1024 : Shape := ⟨3, ![16, 1, 1024]⟩
abbrev S1x1 : Shape := ⟨2, ![1, 1]⟩
abbrev S4x64x1024 : Shape := ⟨3, ![4, 64, 1024]⟩
abbrev S4x1x1024 : Shape := ⟨3, ![4, 1, 1024]⟩
abbrev S1024x1 : Shape := ⟨2, ![1024, 1]⟩
abbrev S1x64x1024 : Shape := ⟨3, ![1, 64, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S1x1024x1 : Shape := ⟨3, ![1, 1024, 1]⟩
abbrev S16x32x32 : Shape := ⟨3, ![16, 32, 32]⟩

abbrev nBuf : Space → Nat
  | .hbm => 15
  | .vmem => 11
  | .smem => 1
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S_, .f32⟩
  | .hbm, ⟨4, _⟩ => ⟨S1024x64, .f32⟩
  | .hbm, ⟨5, _⟩ => ⟨S1024x64, .f32⟩
  | .hbm, ⟨6, _⟩ => ⟨S64x1024, .f32⟩
  | .hbm, ⟨7, _⟩ => ⟨S16x64x1024, .f32⟩
  | .hbm, ⟨8, _⟩ => ⟨S16x1x1024, .i32⟩
  | .hbm, ⟨9, _⟩ => ⟨S1x1, .f32⟩
  | .hbm, ⟨10, _⟩ => ⟨S1x1, .f32⟩
  | .hbm, ⟨11, _⟩ => ⟨S16x64x32x32, .f32⟩
  | .hbm, ⟨12, _⟩ => ⟨S16x32x32, .i32⟩
  | .hbm, ⟨13, _⟩ => ⟨S_, .f32⟩
  | .hbm, ⟨14, _⟩ => ⟨S_, .f32⟩
  | .local _ .vmem, ⟨0, _⟩ => ⟨S4x64x1024, .f32⟩
  | .local _ .vmem, ⟨1, _⟩ => ⟨S4x64x1024, .f32⟩
  | .local _ .vmem, ⟨2, _⟩ => ⟨S1024x64, .f32⟩
  | .local _ .vmem, ⟨3, _⟩ => ⟨S64x1024, .f32⟩
  | .local _ .vmem, ⟨4, _⟩ => ⟨S4x64x1024, .f32⟩
  | .local _ .vmem, ⟨5, _⟩ => ⟨S4x64x1024, .f32⟩
  | .local _ .vmem, ⟨6, _⟩ => ⟨S4x1x1024, .i32⟩
  | .local _ .vmem, ⟨7, _⟩ => ⟨S4x1x1024, .i32⟩
  | .local _ .vmem, ⟨8, _⟩ => ⟨S1x1, .f32⟩
  | .local _ .vmem, ⟨9, _⟩ => ⟨S1x1, .f32⟩
  | .local _ .vmem, ⟨10, _⟩ => ⟨S1024x1, .f32⟩
  | .local _ .smem, ⟨0, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v189 : BitVec 1 := Scalar.cmpi .eq arg0 c3_i32
  let v190 : BitVec 32 := Scalar.extui v189
  let c0_i32_78 : BitVec 32 := 0#32
  let v191 : BitVec 1 := Scalar.cmpi .ne v190 c0_i32_78
  v191

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x32x32 : Shape := ⟨3, ![16, 32, 32]⟩

abbrev nBuf : Space → Nat
  | .hbm => 89
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S64x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x64, .f32⟩
  | .hbm, ⟨45, _⟩ => ⟨S16384x64, .i1⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S16x32x32x64, .f32⟩
  | .hbm, ⟨50, _⟩ => ⟨S16x64x32x32, .f32⟩
  | .hbm, ⟨51, _⟩ => ⟨S16x64x32x32, .f32⟩
  | .hbm, ⟨52, _⟩ => ⟨S16x64x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x64x32x32, .f32⟩
  | .hbm, ⟨60, _⟩ => ⟨S16x64x32x32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x64x32x32, .f32⟩
  | .hbm, ⟨67, _⟩ => ⟨S16x64x32x32, .f32⟩
  | .hbm, ⟨68, _⟩ => ⟨S16384x1, .i32⟩
  | .hbm, ⟨69, _⟩ => ⟨S1x1024, .i32⟩
  | .hbm, ⟨70, _⟩ => ⟨S16384x1024, .i32⟩
  | .hbm, ⟨71, _⟩ => ⟨S16384x1024, .i32⟩
  | .hbm, ⟨72, _⟩ => ⟨S16384x1024, .i1⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16x32x32, .i32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩
abbrev main_cst_8 : Ref sig .tc := ⟨.hbm, 76, rfl⟩
abbrev main_v34 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩

abbrev nD : Nat := 1
abbrev τ : Topo := Topo.v7x

variable {F : FTy → Type} [FloatOps F]
-- ==== Proof.Consts.lean ====
/-
  The float words both programs write as literals, read as extended reals.
-/
module

public import Idealize.ShloMosaic.Lib.ValueIdx
public import Idealize.ShloMosaic.PureOps.Ideal.Laws
public import Idealize.ShloMosaic.Lib.IdealHost
public import Idealize.ShloMosaic.Lib.Pointwise

@[expose] public section

namespace Cert.Consts

open Idealize.ShloMosaic

/-- The word of `0.25`. -/
theorem quarter : Ideal.ofBits .f32 0x3E800000#32 = ((0.25 : ℝ) : EReal) := by
  simp [Ideal.ofBits, Ideal.ieee, -EReal.coe_mul]; norm_num
/-- The word of `2`. -/
theorem two : Ideal.ofBits .f32 0x40000000#32 = ((2 : ℝ) : EReal) := by
  simp [Ideal.ofBits, Ideal.ieee, -EReal.coe_mul]; norm_num
/-- The word of `-2`. -/
theorem neg_two : Ideal.ofBits .f32 0xC0000000#32 = ((-2 : ℝ) : EReal) := by
  simp [Ideal.ofBits, Ideal.ieee, -EReal.coe_mul]; norm_num
/-- The word of `1.25`. -/
theorem five_quarters : Ideal.ofBits .f32 0x3FA00000#32 = ((1.25 : ℝ) : EReal) := by
  simp [Ideal.ofBits, Ideal.ieee, -EReal.coe_mul]; norm_num
/-- The word of `2 ^ 20`, the number of entries of the input. -/
theorem entries : Ideal.ofBits .f32 0x49800000#32 = ((1048576 : ℝ) : EReal) := by
  simp [Ideal.ofBits, Ideal.ieee, -EReal.coe_mul]; norm_num
/-- The word of `2 ^ -14`, one over the number of rows. -/
theorem per_row : Ideal.ofBits .f32 0x38800000#32 = ((1 / 16384 : ℝ) : EReal) := by
  simp [Ideal.ofBits, Ideal.ieee, -EReal.coe_mul]; norm_num
/-- The word of `2 ^ 14`, the number of rows. -/
theorem num_rows : Ideal.ofBits .f32 0x46800000#32 = ((16384 : ℝ) : EReal) := by
  simp [Ideal.ofBits, Ideal.ieee, -EReal.coe_mul]; norm_num
/-- The word of positive infinity. -/
theorem infinity : Ideal.ofBits .f32 0x7F800000#32 = (⊤ : EReal) := by
  simp [Ideal.ofBits, Ideal.ieee]

end Cert.Consts
-- ==== Proof.Nearest.lean ====
/-
  The mathematics both programs share, with no program in it: the squared distance of two points of dimension 64, the
  first number at which a function on 1024 numbers is least, and the three ways the programs find it (a fold by `min`, a
  signed fold by `min` over the numbers where the least value is attained, and `argmin`'s fold over pairs).
-/
module

public import proofs.«01_k».proof.Proof.Consts
public import Idealize.ShloMosaic.PureOps.Reduce

@[expose] public section

noncomputable section

namespace Cert.Nearest

open Idealize.ShloMosaic

/-- The squared distance of two points. -/
def sqDist (x e : Fin 64 → ℝ) : ℝ := ∑ c, (x c - e c) ^ 2

/-- A sum of reals, each read as an extended real, is the real sum read as one. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The squared distance expanded from the codeword times `-2`, as the kernel forms it. -/
theorem sqDist_eq_scaled (x e : Fin 64 → ℝ) :
    (∑ c, x c * x c + ∑ c, -2 * e c * x c) + 0.25 * ∑ c, -2 * e c * (-2 * e c) = sqDist x e := by
  rw [sqDist, Finset.mul_sum, ← Finset.sum_add_distrib, ← Finset.sum_add_distrib]
  exact Finset.sum_congr rfl fun c _ => by ring

/-- The squared distance expanded as the reference forms it. -/
theorem sqDist_eq_plain (x e : Fin 64 → ℝ) :
    (∑ c, x c * x c - 2 * ∑ c, x c * e c) + ∑ c, e c * e c = sqDist x e := by
  rw [sqDist, Finset.mul_sum, ← Finset.sum_sub_distrib, ← Finset.sum_add_distrib]
  exact Finset.sum_congr rfl fun c _ => by ring

/-! ## The first least value -/

/-- A function on 1024 numbers has a first number at which it is least. -/
theorem exists_first (f : Fin 1024 → ℝ) : ∃ k, (∀ l, f k ≤ f l) ∧ ∀ l, l < k → f k < f l := by
  classical
  obtain ⟨k₀, hk₀⟩ := Finite.exists_min f
  have hne : (Finset.univ.filter fun k => ∀ l, f k ≤ f l).Nonempty := ⟨k₀, by simpa using hk₀⟩
  have hmem := Finset.min'_mem _ hne
  rw [Finset.mem_filter] at hmem
  refine ⟨_, hmem.2, fun l hl => lt_of_le_of_ne (hmem.2 l) fun e => ?_⟩
  refine absurd (Finset.min'_le _ l (Finset.mem_filter.mpr ⟨Finset.mem_univ _, fun j => ?_⟩)) (not_le.mpr hl)
  rw [← e]; exact hmem.2 j

/-- The first number at which `f` is least. -/
def best (f : Fin 1024 → ℝ) : Fin 1024 := Classical.choose (exists_first f)

/-- No value is less than the one at the chosen index. -/
theorem best_le (f : Fin 1024 → ℝ) (l : Fin 1024) : f (best f) ≤ f l := (Classical.choose_spec (exists_first f)).1 l
/-- Every value before the chosen index is greater. -/
theorem best_lt (f : Fin 1024 → ℝ) {l : Fin 1024} (h : l < best f) : f (best f) < f l :=
  (Classical.choose_spec (exists_first f)).2 l h

/-- A number at which `f` is least is not before the first one. -/
theorem best_le_of_eq (f : Fin 1024 → ℝ) {l : Fin 1024} (h : f l = f (best f)) : best f ≤ l :=
  not_lt.mp fun hl => absurd h (ne_of_gt (best_lt f hl))

/-- A number no worse than every other, ties going to the smaller number, is the first least one. -/
theorem eq_best (f : Fin 1024 → ℝ) {k : Fin 1024} (h : ∀ l, f k < f l ∨ f k = f l ∧ k ≤ l) : k = best f := by
  rcases h (best f) with h' | ⟨h', hle⟩
  · exact absurd (best_le f k) (not_le.mpr h')
  · exact le_antisymm hle (best_le_of_eq f h')

/-- The fold by `min` from positive infinity is the least value. -/
theorem fold_min (f : Fin 1024 → ℝ) :
    Finset.fold min (⊤ : EReal) (fun k => ((f k : ℝ) : EReal)) Finset.univ = ((f (best f) : ℝ) : EReal) := by
  apply le_antisymm
  · exact (Finset.fold_min_le _).mpr (Or.inr ⟨best f, Finset.mem_univ _, le_rfl⟩)
  · exact (Finset.le_fold_min _).mpr ⟨le_top, fun k _ => EReal.coe_le_coe_iff.mpr (best_le f k)⟩

/-! ## The kernel's search: the least number among those where the value is the least one -/

/-- The signed minimum of two words, read as integers. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- A number below 1024 as a 32-bit word, read as an integer. -/
theorem toInt_word (k : Fin 1024) : (BitVec.ofNat 32 k.val).toInt = k.val := by
  have h := k.isLt
  rw [BitVec.toInt_eq_toNat_of_lt (by rw [BitVec.toNat_ofNat]; omega), BitVec.toNat_ofNat]
  rw [Nat.mod_eq_of_lt (by omega)]

/-- Numbers below 1024 with the same word are the same. -/
theorem word_inj {k l : Fin 1024} (h : BitVec.ofNat 32 k.val = BitVec.ofNat 32 l.val) : k = l := by
  have := congrArg BitVec.toInt h
  rw [toInt_word, toInt_word] at this
  exact Fin.ext (by omega)

/-- The signed fold by `min`, each number's word where the value is the least one and 1024 elsewhere, is the word of the
    first number at which `f` is least. -/
theorem fold_minsi (f : Fin 1024 → ℝ) :
    Finset.fold IntOp.minsi (2147483647#32)
      (fun k : Fin 1024 => if ((f k : ℝ) : EReal) = ((f (best f) : ℝ) : EReal) then BitVec.ofNat 32 k.val else 1024#32) Finset.univ
      = BitVec.ofNat 32 (best f).val := by
  apply BitVec.eq_of_toInt_eq
  rw [← Finset.fold_hom (op' := (min : ℤ → ℤ → ℤ)) (m := BitVec.toInt) toInt_minsi, toInt_word]
  apply le_antisymm
  · refine (Finset.fold_min_le _).mpr (Or.inr ⟨best f, Finset.mem_univ _, ?_⟩)
    rw [if_pos rfl, toInt_word]
  · refine (Finset.le_fold_min _).mpr ⟨?_, fun k _ => ?_⟩
    · have := (best f).isLt
      have h : (2147483647#32 : BitVec 32).toInt = 2147483647 := by decide
      rw [h]; omega
    · split
      · rename_i h
        rw [toInt_word]
        exact_mod_cast Fin.le_def.mp (best_le_of_eq f (EReal.coe_eq_coe_iff.mp h))
      · have := (best f).isLt
        have h : (1024#32 : BitVec 32).toInt = 1024 := by decide
        rw [h]; omega

/-! ## The reference's search: `argmin`'s fold over (value, number) pairs -/

/-- One step of `argmin`: the smaller value wins, and of equal values the smaller number. -/
def step (a b : EReal × BitVec 32) : EReal × BitVec 32 :=
  (if a.1 < b.1 then a.1 else b.1, if a.1 < b.1 ∨ a.1 = b.1 ∧ a.2.toInt < b.2.toInt then a.2 else b.2)

/-- The pair of a number: its value and its word. -/
def pair (f : Fin 1024 → ℝ) (k : Fin 1024) : EReal × BitVec 32 := (((f k : ℝ) : EReal), BitVec.ofNat 32 k.val)

/-- A step on two numbers' pairs gives the pair of one of them, no worse than either. -/
theorem step_pair (f : Fin 1024 → ℝ) (k l : Fin 1024) :
    ∃ j, step (pair f k) (pair f l) = pair f j ∧ (f j < f k ∨ f j = f k ∧ j ≤ k) ∧ (f j < f l ∨ f j = f l ∧ j ≤ l) := by
  unfold step pair
  simp only [toInt_word, EReal.coe_lt_coe_iff, EReal.coe_eq_coe_iff]
  rcases lt_trichotomy (f k) (f l) with h | h | h
  · exact ⟨k, by simp [h], Or.inr ⟨rfl, le_rfl⟩, Or.inl h⟩
  · rcases lt_or_ge k l with hkl | hkl
    · refine ⟨k, ?_, Or.inr ⟨rfl, le_rfl⟩, Or.inr ⟨h, hkl.le⟩⟩
      have : k.val < l.val := hkl
      simp [h, this]
    · refine ⟨l, ?_, Or.inr ⟨h.symm, hkl⟩, Or.inr ⟨rfl, le_rfl⟩⟩
      have : ¬ k.val < l.val := not_lt.mpr hkl
      simp [h, this]
  · exact ⟨l, by simp [not_lt.mpr h.le, ne_of_gt h], Or.inl h, Or.inr ⟨rfl, le_rfl⟩⟩

/-- The fold from a number's pair over a list of numbers' pairs gives the pair of one no worse than any of them. -/
theorem foldl_pair (f : Fin 1024 → ℝ) : ∀ (L : List (Fin 1024)) (k : Fin 1024),
    ∃ j, (L.map (pair f)).foldl step (pair f k) = pair f j ∧ (f j < f k ∨ f j = f k ∧ j ≤ k)
      ∧ ∀ l ∈ L, f j < f l ∨ f j = f l ∧ j ≤ l
  | [], k => ⟨k, rfl, Or.inr ⟨rfl, le_rfl⟩, by simp⟩
  | a :: L, k => by
    obtain ⟨i, hi, hik, hia⟩ := step_pair f k a
    obtain ⟨j, hj, hji, hjL⟩ := foldl_pair f L i
    have trans : ∀ l, (f i < f l ∨ f i = f l ∧ i ≤ l) → (f j < f l ∨ f j = f l ∧ j ≤ l) := fun l h => by
      rcases hji with h1 | ⟨h1, h1'⟩ <;> rcases h with h2 | ⟨h2, h2'⟩
      · exact Or.inl (h1.trans h2)
      · exact Or.inl (h2 ▸ h1)
      · exact Or.inl (h1 ▸ h2)
      · exact Or.inr ⟨h1.trans h2, h1'.trans h2'⟩
    refine ⟨j, by rw [List.map_cons, List.foldl_cons, hi, hj], trans k hik, fun l hl => ?_⟩
    rcases List.mem_cons.mp hl with rfl | hl
    · exact trans _ hia
    · exact hjL l hl

/-- `argmin`'s fold over a list that names every number, from positive infinity and zero, gives the first least one. -/
theorem foldl_argmin (f : Fin 1024 → ℝ) (L : List (Fin 1024)) (hL : ∀ k, k ∈ L) :
    (L.map (pair f)).foldl step (⊤, 0#32) = pair f (best f) := by
  cases L with
  | nil => exact absurd (hL 0) List.not_mem_nil
  | cons a L =>
    have h0 : step (⊤, 0#32) (pair f a) = pair f a := by
      simp [step, pair]
    obtain ⟨j, hj, hja, hjL⟩ := foldl_pair f L a
    rw [List.map_cons, List.foldl_cons, h0, hj, eq_best f (k := j) fun l => ?_]
    rcases List.mem_cons.mp (hL l) with rfl | hl
    · exact hja
    · exact hjL l hl

end Cert.Nearest

end
-- ==== Proof.Target.lean ====
/-
  What both programs are shown to compute, on real points and real codewords: the chosen codeword of every pixel, the total
  squared distance, the number of pixels that chose a codeword, and the loss and the perplexity made of them. An image has
  32 × 32 pixels, numbered row by row; the pixels of the 16 images are numbered image by image.
-/
module

public import proofs.«01_k».proof.Proof.Nearest

@[expose] public section

noncomputable section

namespace Cert.Nearest

open Idealize.ShloMosaic

/-- The number of the pixel `(h, w)` of an image. -/
def pix (h w : Fin 32) : Fin 1024 := ⟨h.val * 32 + w.val, by omega⟩
/-- The image that pixel `n` of all the images lies in. -/
def img (n : Fin 16384) : Fin 16 := ⟨n.val / 1024, by omega⟩
/-- The number, in its image, of pixel `n` of all the images. -/
def pos (n : Fin 16384) : Fin 1024 := ⟨n.val % 1024, by omega⟩

/-- A sum over the pixels of an image, by rows. -/
theorem sum_pix {M : Type*} [AddCommMonoid M] (G : Fin 1024 → M) : ∑ h, ∑ w, G (pix h w) = ∑ p, G p := by
  rw [← Fintype.sum_prod_type' (f := fun h w => G (pix h w))]
  refine Fintype.sum_equiv (finProdFinEquiv (m := 32) (n := 32)) _ _ fun a => ?_
  refine congrArg G (Fin.ext ?_)
  show a.1.val * 32 + a.2.val = a.2.val + 32 * a.1.val
  omega

/-- A sum over the pixels of all the images, by images. -/
theorem sum_rows {M : Type*} [AddCommMonoid M] (G : Fin 16 → Fin 1024 → M) : ∑ n, G (img n) (pos n) = ∑ b, ∑ p, G b p := by
  rw [← Fintype.sum_prod_type' (f := G)]
  exact Fintype.sum_equiv (finProdFinEquiv (m := 16) (n := 1024)).symm _ _ fun _ => rfl

/-- The points: image, pixel, channel. -/
abbrev Points := Fin 16 → Fin 1024 → Fin 64 → ℝ
/-- The codewords: number, channel. -/
abbrev Codes := Fin 1024 → Fin 64 → ℝ

/-- The number of the codeword nearest a point, the first one of those equally near. -/
def nearest (x : Fin 64 → ℝ) (e : Codes) : Fin 1024 := best fun k => sqDist x (e k)

/-- The squared distance of a point to its nearest codeword. -/
def least (x : Fin 64 → ℝ) (e : Codes) : ℝ := sqDist x (e (nearest x e))

/-- The total squared distance of the pixels to their nearest codewords. -/
def total (x : Points) (e : Codes) : ℝ := ∑ b, ∑ p, least (x b p) e

/-- One where `k` is the nearest codeword's number, zero elsewhere. -/
def mark (x : Fin 64 → ℝ) (e : Codes) (k : Fin 1024) : ℝ := if k = nearest x e then 1 else 0

/-- The number of pixels whose nearest codeword is `k`. -/
def uses (x : Points) (e : Codes) (k : Fin 1024) : ℝ := ∑ b, ∑ p, mark (x b p) e k

/-- The loss. -/
def loss (x : Points) (e : Codes) : ℝ := 1.25 * total x e * (1 / 1048576)

/-- The perplexity of the shares of the pixels per codeword. -/
def perplexity (x : Points) (e : Codes) : EReal :=
  Ideal.exp (-∑ k, ((uses x e k * (1 / 16384) : ℝ) : EReal)
    * Ideal.log (max ((uses x e k * (1 / 16384) : ℝ) : EReal) (Ideal.ofBits .f32 0x2EDBE6FF#32)))

/-- A selection among the codewords by the marks is the nearest codeword. -/
theorem sum_mark (x : Fin 64 → ℝ) (e : Codes) (g : Fin 1024 → ℝ) : ∑ k, g k * mark x e k = g (nearest x e) := by
  simp [mark]

/-- The bit of a number's word being another's, as a real. -/
theorem word_eq_mark (x : Fin 64 → ℝ) (e : Codes) (k : Fin 1024) :
    (BitVec.ofNat 32 k.val = BitVec.ofNat 32 (nearest x e).val) ↔ k = nearest x e :=
  ⟨word_inj, fun h => by rw [h]⟩

end Cert.Nearest

end
-- ==== Proof.RefRun.lean ====
/-
  The reference program's run. Its @main and the four functions it calls are one straight line of array operations, with
  no kernel launched: the line is written here in five parts, every weakly fair execution ends with each buffer at what
  the line leaves in it, and each result is read off the part that writes it as a named function of what that part reads.
-/
module

public import proofs.«01_k».proof.Proof.Target
public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Tactic
public import Idealize.ShloMosaic.Lib.Quiescent
public import Idealize.ShloMosaic.Lib.Pipeline.Frame

@[expose] public section

set_option maxRecDepth 8192

noncomputable section

namespace Cert.ReferenceIdeal.Value

open Cert.ReferenceIdeal Cert.ReferenceIdeal.Gen Idealize.ShloMosaic Idealize.SL.Sem Idealize.ShloMosaic.StableHlo

variable {F : FTy → Type} [FloatOps F]

/-! ## The line of operations -/

/-- The operations up to the squared distances of every row to every codeword. -/
abbrev opsDist : List (HloOp τ sig (Elt F)) :=
  [ unary main_arg0 main_v0 (transpose S16x32x32x64 [0, 2, 3, 1] · transposes_S16x64x32x32_S16x32x32x64_0_2_3_1),
    reshape main_v0 main_v1 rfl shapeCasts_S16x32x32x64_S16384x64,
    binary main_v1 main_v1 main_v2 mulf,
    nullary main_cst (constant S_ .f32 0x00000000#32),
    binary main_v2 main_cst main_v3 (fun x v => Host.reduceAdd x v reducesTo_S16384x64_S16384_d1 h_S_),
    unary main_v3 main_v4 (broadcastInDim S16384x1 ![0] bcast_S16384_S16384x1_0),
    unary main_arg1 main_v5 (transpose S64x1024 [1, 0] · transposes_S1024x64_S64x1024_1_0),
    binary main_v1 main_v5 main_v6 (fun l r => Host.dotGeneral dot_S16384x64_S64x1024_S16384x1024_1_0_0_1_n_n none l r),
    nullary main_cst_0 (constant S_ .f32 0x40000000#32),
    unary main_cst_0 main_v7 (broadcastInDim S16384x1024 ![] bcast_S_S16384x1024),
    binary main_v7 main_v6 main_v8 mulf,
    unary main_v4 main_v9 (broadcastInDim S16384x1024 ![0, 1] bcast_S16384x1_S16384x1024_0_1),
    binary main_v9 main_v8 main_v10 subf,
    binary main_arg1 main_arg1 main_v11 mulf,
    nullary main_cst_1 (constant S_ .f32 0x00000000#32),
    binary main_v11 main_cst_1 main_v12 (fun x v => Host.reduceAdd x v reducesTo_S1024x64_S1024_d1 h_S_),
    unary main_v12 main_v13 (broadcastInDim S1x1024 ![1] bcast_S1024_S1x1024_1),
    unary main_v13 main_v14 (broadcastInDim S16384x1024 ![0, 1] bcast_S1x1024_S16384x1024_0_1),
    binary main_v10 main_v14 main_v15 addf ]

/-- The operations of `argmin` over the distances. -/
abbrev opsArgmin : List (HloOp τ sig (Elt F)) :=
  [ nullary main_call0_v0 (iotaInDim S16384x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S16384x1024_S16384_d1 h_S_ j).1),
    quaternary main_v15 main_call0_v0 main_call0_cst main_call0_c main_v16 (fun x y u v j => (Host.argReduce reducer_argmin_f32_i32 x y u v reducesTo_S16384x1024_S16384_d1 h_S_ j).2) ]

/-- The operations of `take`: the chosen codeword of every row. -/
abbrev opsTake : List (HloOp τ sig (Elt F)) :=
  [ nullary main_call1_c (constantI S_ 32 0#32),
    unary main_call1_c main_call1_v0 (broadcastInDim S16384 ![] bcast_S_S16384),
    binary main_v16 main_call1_v0 main_call1_v1 (cmpi .slt),
    nullary main_call1_c_0 (constantI S_ 32 1024#32),
    unary main_call1_c_0 main_call1_v2 (broadcastInDim S16384 ![] bcast_S_S16384),
    binary main_v16 main_call1_v2 main_call1_v3 addi,
    ternary main_call1_v1 main_call1_v3 main_v16 main_call1_v4 select,
    unary main_call1_v4 main_call1_v5 (broadcastInDim S16384x1 ![0] bcast_S16384_S16384x1_0),
    nullary main_call1_c_1 (constantI S1 32 1023#32),
    nullary main_call1_c_2 (constantI S_ 32 0#32),
    unary main_call1_c_2 main_call1_v6 (broadcastInDim S16384x1 ![] bcast_S_S16384x1),
    binary main_call1_v5 main_call1_v6 main_call1_v7 (cmpi .sge),
    unary main_call1_c_1 main_call1_v8 (broadcastInDim S1x1 ![1] bcast_S1_S1x1_1),
    unary main_call1_v8 main_call1_v9 (broadcastInDim S16384x1 ![0, 1] bcast_S1x1_S16384x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16384x1_S16384_d1 h_S_),
    binary main_arg1 main_call1_v5 main_call1_v13 (fun x i => Host.gather gather_S1024x64_S16384x1_S16384x64_1_0_n_n_0_1_164 x i),
    unary main_call1_v12 main_call1_v14 (broadcastInDim S16384x64 ![0] bcast_S16384_S16384x64_0),
    nullary main_call1_cst (constant S_ .f32 0x7FC00000#32),
    unary main_call1_cst main_call1_v15 (broadcastInDim S16384x64 ![] bcast_S_S16384x64),
    ternary main_call1_v14 main_call1_v13 main_call1_v15 main_v17 select ]

/-- The operations that lay the chosen codewords out as images, form the loss, and pass the quantised images through. -/
abbrev opsLoss : List (HloOp τ sig (Elt F)) :=
  [ reshape main_v17 main_v18 rfl shapeCasts_S16384x64_S16x32x32x64,
    unary main_v18 main_v19 (transpose S16x64x32x32 [0, 3, 1, 2] · transposes_S16x32x32x64_S16x64x32x32_0_3_1_2),
    binary main_arg0 main_v19 main_v20 subf,
    binary main_v20 main_v20 main_v21 mulf,
    nullary main_cst_2 (constant S_ .f32 0x00000000#32),
    binary main_v21 main_cst_2 main_v22 (fun x v => Host.reduceAdd x v reducesTo_S16x64x32x32_S_d0_1_2_3 h_S_),
    nullary main_cst_3 (constant S_ .f32 0x49800000#32),
    binary main_v22 main_cst_3 main_v23 Host.divf,
    nullary main_cst_4 (constant S_ .f32 0x3E800000#32),
    binary main_cst_4 main_v23 main_v24 mulf,
    binary main_arg0 main_v19 main_v25 subf,
    binary main_v25 main_v25 main_v26 mulf,
    nullary main_cst_5 (constant S_ .f32 0x00000000#32),
    binary main_v26 main_cst_5 main_v27 (fun x v => Host.reduceAdd x v reducesTo_S16x64x32x32_S_d0_1_2_3 h_S_),
    nullary main_cst_6 (constant S_ .f32 0x49800000#32),
    binary main_v27 main_cst_6 main_v28 Host.divf,
    binary main_v24 main_v28 main_v29 addf,
    binary main_v19 main_arg0 main_v30 subf,
    binary main_arg0 main_v30 main_v31 addf ]

/-- The operations that count the chosen codewords, form the perplexity, and lay the chosen numbers out as images. -/
abbrev opsPerp : List (HloOp τ sig (Elt F)) :=
  [ unary main_v16 main_call2_v0 (broadcastInDim S16384x1 ![0] bcast_S16384_S16384x1_0),
    nullary main_call2_v1 (iotaInDim S1x1024 32 1),
    unary main_call2_v0 main_call2_v2 (broadcastInDim S16384x1024 ![0, 1] bcast_S16384x1_S16384x1024_0_1),
    unary main_call2_v1 main_call2_v3 (broadcastInDim S16384x1024 ![0, 1] bcast_S1x1024_S16384x1024_0_1),
    binary main_call2_v2 main_call2_v3 main_call2_v4 (cmpi .eq),
    unary main_call2_v4 main_v32 (uitofp .f32),
    nullary main_cst_7 (constant S_ .f32 0x00000000#32),
    binary main_v32 main_cst_7 main_v33 (fun x v => Host.reduceAdd x v reducesTo_S16384x1024_S1024_d0 h_S_),
    nullary main_cst_8 (constant S_ .f32 0x46800000#32),
    unary main_cst_8 main_v34 (broadcastInDim S1024 ![] bcast_S_S1024),
    binary main_v33 main_v34 main_v35 Host.divf,
    nullary main_cst_9 (constant S_ .f32 0x2EDBE6FF#32),
    unary main_cst_9 main_v36 (broadcastInDim S1024 ![] bcast_S_S1024),
    binary main_v35 main_v36 main_v37 maximumf,
    unary main_v37 main_v38 Host.log,
    binary main_v35 main_v38 main_v39 mulf,
    nullary main_cst_10 (constant S_ .f32 0x00000000#32),
    binary main_v39 main_cst_10 main_v40 (fun x v => Host.reduceAdd x v reducesTo_S1024_S_d0 h_S_),
    unary main_v40 main_v41 Host.negf,
    unary main_v41 main_v42 Host.exp,
    reshape main_v16 main_v43 rfl shapeCasts_S16384_S16x32x32 ]

/-- The whole line. -/
abbrev ops : List (HloOp τ sig (Elt F)) := opsDist ++ (opsArgmin ++ (opsTake ++ (opsLoss ++ opsPerp)))

set_option maxRecDepth 200000 in
/-- @main is the line, its four calls written out. -/
theorem main_eq (c : Dev nD) : main (F := F) c = seq ops := rfl

/-- The program has no scoped buffer. -/
theorem scopedRefs_eq : (Finset.univ.filter fun b : Ref sig .tc => b.isScoped) = ∅ := by decide

/-- The program has no scoped semaphore. -/
theorem scopedSems_eq : (Finset.univ.filter fun sm : SemLoc sig => sm.isScoped .tc) = ∅ := by decide

/-- Every operation of the line works on the TensorCore's own buffers. -/
theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., unary_bufs_sub .., binary_bufs_sub .., nullary_bufs_sub .., unary_bufs_sub ..,
    binary_bufs_sub .., unary_bufs_sub .., binary_bufs_sub .., binary_bufs_sub .., nullary_bufs_sub ..,
    binary_bufs_sub .., unary_bufs_sub .., unary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., unary_bufs_sub .., binary_bufs_sub ..,
    binary_bufs_sub .., nullary_bufs_sub .., binary_bufs_sub .., nullary_bufs_sub .., binary_bufs_sub ..,
    nullary_bufs_sub .., binary_bufs_sub .., binary_bufs_sub .., binary_bufs_sub .., nullary_bufs_sub ..,
    binary_bufs_sub .., nullary_bufs_sub .., binary_bufs_sub .., binary_bufs_sub .., binary_bufs_sub ..,
    binary_bufs_sub .., unary_bufs_sub .., nullary_bufs_sub .., unary_bufs_sub .., unary_bufs_sub ..,
    binary_bufs_sub .., unary_bufs_sub .., nullary_bufs_sub .., binary_bufs_sub .., nullary_bufs_sub ..,
    unary_bufs_sub .., binary_bufs_sub .., nullary_bufs_sub .., unary_bufs_sub .., binary_bufs_sub ..,
    unary_bufs_sub .., binary_bufs_sub .., nullary_bufs_sub .., binary_bufs_sub .., unary_bufs_sub ..,
    unary_bufs_sub .., reshape_bufs_sub ..⟩

/-- Every weakly fair execution of @main ends, each buffer holding what the line leaves in it. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## What the parts compute -/

/-- The rows `z` is cut into: row `1024 b + 32 h + w` holds the channels at image `b`, pixel `(h, w)`. -/
def rows (z : FVec F S16x64x32x32 .f32) : FVec F S16384x64 .f32 :=
  shapeCast S16384x64 (transpose S16x32x32x64 [0, 2, 3, 1] z transposes_S16x64x32x32_S16x32x32x64_0_2_3_1)
    shapeCasts_S16x32x32x64_S16384x64

/-- The distances: `(∑ z² - 2 ∑ z e) + ∑ e²`, a row per pixel and a column per codeword. -/
def dist (z : FVec F S16x64x32x32 .f32) (e : FVec F S1024x64 .f32) : FVec F S16384x1024 .f32 :=
  addf
    (subf
      (broadcastInDim S16384x1024 ![0, 1] bcast_S16384x1_S16384x1024_0_1
        (broadcastInDim S16384x1 ![0] bcast_S16384_S16384x1_0
          (Host.reduceAdd (mulf (rows z) (rows z)) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none (rows z)
          (transpose S64x1024 [1, 0] e transposes_S1024x64_S64x1024_1_0))))
    (broadcastInDim S16384x1024 ![0, 1] bcast_S1x1024_S16384x1024_0_1
      (broadcastInDim S1x1024 ![1] bcast_S1024_S1x1024_1
        (Host.reduceAdd (mulf e e) (constant S_ .f32 0x00000000#32) reducesTo_S1024x64_S1024_d1 h_S_)))

/-- The chosen codeword's number per row: `argmin` of the row's distances. -/
def chosen (d : FVec F S16384x1024 .f32) : IVec S16384 32 :=
  fun j => (Host.argReduce reducer_argmin_f32_i32 d (iotaInDim S16384x1024 32 1) (constant S_ .f32 0x7F800000#32)
    (constantI S_ 32 0#32) reducesTo_S16384x1024_S16384_d1 h_S_ j).2

/-- The row numbers `take` reads at: a negative number counts from the end. -/
def takeAt (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- `take`: the codeword a row's number names, and the fill value where the number is out of range. -/
def taken (e : FVec F S1024x64 .f32) (i : IVec S16384 32) : FVec F S16384x64 .f32 :=
  select
    (broadcastInDim S16384x64 ![0] bcast_S16384_S16384x64_0
      (Host.reduce IntOp.andi
        (andi (cmpi .sge (takeAt i) (broadcastInDim S16384x1 ![] bcast_S_S16384x1 (constantI S_ 32 0#32)))
          (cmpi .sle (takeAt i)
            (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 e (takeAt i))
    (broadcastInDim S16384x64 ![] bcast_S_S16384x64 (constant S_ .f32 0x7FC00000#32))

/-- Rows laid out as images again. -/
def images (t : FVec F S16384x64 .f32) : FVec F S16x64x32x32 .f32 :=
  transpose S16x64x32x32 [0, 3, 1, 2] (shapeCast S16x32x32x64 t shapeCasts_S16384x64_S16x32x32x64)
    transposes_S16x32x32x64_S16x64x32x32_0_3_1_2

/-- The mean of the squared differences of two batches of images. -/
def meanSq (z q : FVec F S16x64x32x32 .f32) : FVec F S_ .f32 :=
  Host.divf (Host.reduceAdd (mulf (subf z q) (subf z q)) (constant S_ .f32 0x00000000#32) reducesTo_S16x64x32x32_S_d0_1_2_3 h_S_)
    (constant S_ .f32 0x49800000#32)

/-- The loss: a quarter of the mean, and the mean. -/
def lossOf (z q : FVec F S16x64x32x32 .f32) : FVec F S_ .f32 :=
  addf (mulf (constant S_ .f32 0x3E800000#32) (meanSq z q)) (meanSq z q)

/-- The straight-through images: `z + (q - z)`. -/
def through (z q : FVec F S16x64x32x32 .f32) : FVec F S16x64x32x32 .f32 := addf z (subf q z)

/-- The one-hot rows of the chosen numbers. -/
def oneHot (i : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The share of the rows that chose each codeword. -/
def share (i : IVec S16384 32) : FVec F S1024 .f32 :=
  Host.divf (Host.reduceAdd (oneHot i) (constant S_ .f32 0x00000000#32) reducesTo_S16384x1024_S1024_d0 h_S_)
    (broadcastInDim S1024 ![] bcast_S_S1024 (constant S_ .f32 0x46800000#32))

/-- The perplexity of the shares `p`: `exp (-∑ p log (max p 1e-10))`. -/
def perpOf (p : FVec F S1024 .f32) : FVec F S_ .f32 :=
  Host.exp (Host.negf (Host.reduceAdd
    (mulf p (Host.log (maximumf p (broadcastInDim S1024 ![] bcast_S_S1024 (constant S_ .f32 0x2EDBE6FF#32)))))
    (constant S_ .f32 0x00000000#32) reducesTo_S1024_S_d0 h_S_))

/-! ## Each part read at what it writes and at what later parts still read -/

variable (V : Valuation τ sig (Elt F))

/-- The first stretch leaves the distances of the two arguments. -/
theorem opsDist_v15 : after opsDist V (Proc.devRef .tc main_v15) = dist (V (Proc.devRef .tc main_arg0)) (V (Proc.devRef .tc main_arg1)) := by
  after_reads_simp <;> rfl
/-- The second stretch leaves the chosen numbers of the distances. -/
theorem opsArgmin_v16 : after opsArgmin V (Proc.devRef .tc main_v16) = chosen (V (Proc.devRef .tc main_v15)) := by
  after_reads_simp <;> rfl
/-- The third stretch leaves the chosen codewords. -/
theorem opsTake_v17 : after opsTake V (Proc.devRef .tc main_v17) = taken (V (Proc.devRef .tc main_arg1)) (V (Proc.devRef .tc main_v16)) := by
  after_reads_simp <;> rfl
/-- The fourth stretch leaves the loss. -/
theorem opsLoss_v29 : after opsLoss V (Proc.devRef .tc main_v29) =
    lossOf (V (Proc.devRef .tc main_arg0)) (images (V (Proc.devRef .tc main_v17))) := by
  after_reads_simp <;> rfl
/-- The fourth stretch leaves the straight-through images. -/
theorem opsLoss_v31 : after opsLoss V (Proc.devRef .tc main_v31) =
    through (V (Proc.devRef .tc main_arg0)) (images (V (Proc.devRef .tc main_v17))) := by
  after_reads_simp <;> rfl
/-- The last stretch leaves the perplexity. -/
theorem opsPerp_v42 : after opsPerp V (Proc.devRef .tc main_v42) = perpOf (share (V (Proc.devRef .tc main_v16))) := by
  after_reads_simp <;> rfl
/-- The last stretch leaves the chosen numbers, as images. -/
theorem opsPerp_v43 : after opsPerp V (Proc.devRef .tc main_v43) =
    shapeCast S16x32x32 (V (Proc.devRef .tc main_v16)) shapeCasts_S16384_S16x32x32 := by
  after_reads_simp <;> rfl

/-! ## The whole line read at its results -/

/-- The chosen numbers, from the two arguments. -/
def idx (z : FVec F S16x64x32x32 .f32) (e : FVec F S1024x64 .f32) : IVec S16384 32 := chosen (dist z e)

/-- The quantised images, from the two arguments. -/
def quantised (z : FVec F S16x64x32x32 .f32) (e : FVec F S1024x64 .f32) : FVec F S16x64x32x32 .f32 := images (taken e (idx z e))

/-- The contents after the distances, after `argmin`, after `take`, and after the loss. -/
abbrev V1 : Valuation τ sig (Elt F) := after opsDist V
/-- See `V1`. -/
abbrev V2 : Valuation τ sig (Elt F) := after opsArgmin (V1 V)
/-- See `V1`. -/
abbrev V3 : Valuation τ sig (Elt F) := after opsTake (V2 V)
/-- See `V1`. -/
abbrev V4 : Valuation τ sig (Elt F) := after opsLoss (V3 V)

/-- The whole line is its last stretch after the four before it. -/
theorem after_ops : after ops V = after opsPerp (V4 V) := by
  rw [show (ops : List (HloOp τ sig (Elt F))) = opsDist ++ (opsArgmin ++ (opsTake ++ (opsLoss ++ opsPerp))) from rfl]
  rw [after_append, after_append, after_append, after_append]

/-- After two stretches the chosen numbers are those of the two arguments. -/
theorem V2_v16 : V2 V (Proc.devRef .tc main_v16) = idx (V (Proc.devRef .tc main_arg0)) (V (Proc.devRef .tc main_arg1)) := by
  rw [V2, opsArgmin_v16, V1, opsDist_v15]; rfl

/-- After two stretches the images are as they were. -/
theorem V2_arg0 : V2 V (Proc.devRef .tc main_arg0) = V (Proc.devRef .tc main_arg0) := by after_reads_simp
/-- After two stretches the codebook is as it was. -/
theorem V2_arg1 : V2 V (Proc.devRef .tc main_arg1) = V (Proc.devRef .tc main_arg1) := by after_reads_simp

/-- After three stretches the chosen numbers are those of the two arguments. -/
theorem V3_v16 : V3 V (Proc.devRef .tc main_v16) = idx (V (Proc.devRef .tc main_arg0)) (V (Proc.devRef .tc main_arg1)) :=
  Eq.trans (by rw [V3]; after_reads_simp) (V2_v16 V)

/-- After three stretches the images are as they were. -/
theorem V3_arg0 : V3 V (Proc.devRef .tc main_arg0) = V (Proc.devRef .tc main_arg0) := by after_reads_simp

/-- After three stretches the chosen codewords are those of the two arguments. -/
theorem V3_v17 : V3 V (Proc.devRef .tc main_v17) =
    taken (V (Proc.devRef .tc main_arg1)) (idx (V (Proc.devRef .tc main_arg0)) (V (Proc.devRef .tc main_arg1))) := by
  rw [V3, opsTake_v17, V2_v16, V2_arg1]

/-- After four stretches the chosen numbers are those of the two arguments. -/
theorem V4_v16 : V4 V (Proc.devRef .tc main_v16) = idx (V (Proc.devRef .tc main_arg0)) (V (Proc.devRef .tc main_arg1)) :=
  Eq.trans (by rw [V4]; after_reads_simp) (V3_v16 V)

/-- The straight-through images at the end of the line. -/
theorem ops_v31 : after ops V (Proc.devRef .tc main_v31) =
    through (V (Proc.devRef .tc main_arg0)) (quantised (V (Proc.devRef .tc main_arg0)) (V (Proc.devRef .tc main_arg1))) := by
  rw [after_ops]
  exact Eq.trans (b := V4 V (Proc.devRef .tc main_v31)) (by after_reads_simp) (by rw [V4, opsLoss_v31, V3_v17, V3_arg0]; rfl)

/-- The loss at the end of the line. -/
theorem ops_v29 : after ops V (Proc.devRef .tc main_v29) =
    lossOf (V (Proc.devRef .tc main_arg0)) (quantised (V (Proc.devRef .tc main_arg0)) (V (Proc.devRef .tc main_arg1))) := by
  rw [after_ops]
  exact Eq.trans (b := V4 V (Proc.devRef .tc main_v29)) (by after_reads_simp) (by rw [V4, opsLoss_v29, V3_v17, V3_arg0]; rfl)

/-- The perplexity at the end of the line. -/
theorem ops_v42 : after ops V (Proc.devRef .tc main_v42) =
    perpOf (share (idx (V (Proc.devRef .tc main_arg0)) (V (Proc.devRef .tc main_arg1)))) := by
  rw [after_ops, opsPerp_v42, V4_v16]

/-- The chosen numbers, as images, at the end of the line. -/
theorem ops_v43 : after ops V (Proc.devRef .tc main_v43) =
    shapeCast S16x32x32 (idx (V (Proc.devRef .tc main_arg0)) (V (Proc.devRef .tc main_arg1))) shapeCasts_S16384_S16x32x32 := by
  rw [after_ops, opsPerp_v43, V4_v16]

/-- Every weakly fair execution of the reference ends with its four results at the named functions of the arguments, the
    arguments as they were, and every semaphore counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v31)
          = through (m ((c.tc : Thread nD τ).loc main_arg0)) (quantised (m ((c.tc : Thread nD τ).loc main_arg0)) (m ((c.tc : Thread nD τ).loc main_arg1)))
        ∧ r.2.mem ((c.tc : Thread nD τ).loc main_v29)
          = lossOf (m ((c.tc : Thread nD τ).loc main_arg0)) (quantised (m ((c.tc : Thread nD τ).loc main_arg0)) (m ((c.tc : Thread nD τ).loc main_arg1)))
        ∧ r.2.mem ((c.tc : Thread nD τ).loc main_v42)
          = perpOf (share (idx (m ((c.tc : Thread nD τ).loc main_arg0)) (m ((c.tc : Thread nD τ).loc main_arg1))))
        ∧ r.2.mem ((c.tc : Thread nD τ).loc main_v43)
          = shapeCast S16x32x32 (idx (m ((c.tc : Thread nD τ).loc main_arg0)) (m ((c.tc : Thread nD τ).loc main_arg1))) shapeCasts_S16384_S16x32x32
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c =>
      ⟨(h c main_v31).trans (ops_v31 _), (h c main_v29).trans (ops_v29 _), (h c main_v42).trans (ops_v42 _),
        (h c main_v43).trans (ops_v43 _), (h c main_arg0).trans (by after_reads_simp), (h c main_arg1).trans (by after_reads_simp)⟩,
      sem_eq_zero_of_no_sems (by decide) r.2⟩)
    (run_line m ρ)

end Cert.ReferenceIdeal.Value

end
-- ==== Proof.RefValue.lean ====
/-
  The reference program's four results, on real points and real codewords: the named functions of its run read entry by
  entry, down to the chosen codeword of every pixel, the loss and the perplexity of the target module.
-/
module
public import proofs.«01_k».proof.Proof.RefRun
public import Idealize.ShloMosaic.Lib.Pointwise
public import Idealize.ShloMosaic.Lib.Routing.Ops
public import Idealize.ShloMosaic.PureOps.Reduce
public import Idealize.ShloMosaic.Lib.Tactic.WordOmega
@[expose] public section
set_option maxRecDepth 16384
noncomputable section
namespace Cert.ReferenceIdeal.Value
open Cert.ReferenceIdeal Cert.ReferenceIdeal.Gen Idealize.ShloMosaic Cert.Nearest

/-- The reducer is the step of the abstract fold. -/
theorem reducer_eq : (reducer_argmin_f32_i32 (F := Ideal)) = step := by
  funext a b
  unfold reducer_argmin_f32_i32 step
  pointwise []
  have hs : IntOp.cmpi .slt a.2 b.2 = BitVec.ofBool (decide (a.2.toInt < b.2.toInt)) := by
    simp [IntOp.cmpi, BitVec.slt]
  rw [hs]
  by_cases h1 : a.1 < b.1 <;> by_cases h2 : a.1 = b.1 <;> by_cases h3 : a.2.toInt < b.2.toInt <;>
    simp [h1, h2, h3, Scalar.select, IntOp.ori, IntOp.andi]

/-- The column of an entry of a two-axis array of 1024 columns, from the entry's place in row-major order. -/
def column (n : Nat) (a : Fin (⟨2, ![n, 1024]⟩ : Shape).numel) : Fin 1024 := (⟨2, ![n, 1024]⟩ : Shape).rowMajor.symm a 1

/-- The fold of the step over a row of a two-axis array, the row's entries real and the second array its numbers. -/
theorem fold_row {n : Nat} {t : Shape} (h : (⟨2, ![n, 1024]⟩ : Shape).ReducesTo [1] t) (j : t.Idx) (r : Fin n)
    (hr : ∀ i, h.drop i = j ↔ ∃ k : Fin 1024, ix2 r k = i) (f : Fin 1024 → ℝ)
    (x : (⟨2, ![n, 1024]⟩ : Shape).Idx → EReal) (y : (⟨2, ![n, 1024]⟩ : Shape).Idx → BitVec 32)
    (hx : ∀ k, x (ix2 r k) = ((f k : ℝ) : EReal)) (hy : ∀ k : Fin 1024, y (ix2 r k) = BitVec.ofNat 32 k.val) :
    (Host.argReduceFiber x y h j).foldl step (⊤, 0#32) = pair f (best f) := by
  have hL : ∀ L : List (Fin (⟨2, ![n, 1024]⟩ : Shape).numel), (∀ a ∈ L, h.drop ((⟨2, ![n, 1024]⟩ : Shape).rowMajor.symm a) = j) →
      L.map (fun a => (x ((⟨2, ![n, 1024]⟩ : Shape).rowMajor.symm a), y ((⟨2, ![n, 1024]⟩ : Shape).rowMajor.symm a)))
        = (L.map (column n)).map (pair f) := fun L hL => by
    rw [List.map_map]
    refine List.map_congr_left fun a ha => ?_
    obtain ⟨k, hk⟩ := (hr _).mp (hL a ha)
    have hc : column n a = k := by unfold column; rw [← hk]; rfl
    rw [Function.comp_apply, hc, ← hk, hx, hy]; rfl
  unfold Host.argReduceFiber
  rw [hL _ fun a ha => of_decide_eq_true (List.mem_filter.mp ha).2]
  refine foldl_argmin f _ fun k => List.mem_map.mpr ⟨(⟨2, ![n, 1024]⟩ : Shape).rowMajor (ix2 r k), ?_, ?_⟩
  · refine List.mem_filter.mpr ⟨List.mem_finRange _, decide_eq_true ?_⟩
    rw [Equiv.symm_apply_apply]; exact (hr _).mpr ⟨k, rfl⟩
  · unfold column; rw [Equiv.symm_apply_apply]; rfl

/-- At the ideal values a two-operand reduction is the fold of its body over the fiber. -/
theorem argReduce_fiber {s t u : Shape} {axes : List (Fin s.rank)} {β : Type} (f : EReal × β → EReal × β → EReal × β)
    (x : FVec Ideal s .f32) (y : s.Idx → β) (ix : u.Idx → EReal) (iy : u.Idx → β) (h : s.ReducesTo axes t) (hu : 0 < u.numel) (j : t.Idx) :
    Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

/-- The second components of a family of pairs, at a place where the pair is known. -/
theorem snd_at {J A B : Type} {g : J → B} {P : J → A × B} (hg : g = fun j => (P j).2) {j : J} {p : A × B} (h : P j = p) :
    g j = p.2 := by
  subst hg; rw [← h]

/-- `chosen` written out. -/
theorem chosen_eq (d : FVec Ideal S16384x1024 .f32) : chosen d = fun j =>
    (Host.argReduce (F := Ideal) (φ := .f32) reducer_argmin_f32_i32 d (iotaInDim S16384x1024 32 1) (constant S_ .f32 0x7F800000#32)
      (constantI S_ 32 0#32) reducesTo_S16384x1024_S16384_d1 h_S_ j).2 := by
  delta chosen
  with_reducible rfl

/-- `argmin` of a row of real distances is the first number at which the row is least. -/
theorem chosen_apply (d : FVec Ideal S16384x1024 .f32) (n : Fin 16384) (f : Fin 1024 → ℝ)
    (hd : ∀ k, d (ix2 n k) = ((f k : ℝ) : EReal)) : chosen d (ix1 n) = BitVec.ofNat 32 (best f).val := by
  have h := fold_row (n := 16384) reducesTo_S16384x1024_S16384_d1 (ix1 n) n
    (fun i => Shape.ReducesTo.fiber_r2_a1 (n0 := 16384) (n1 := 1024) reducesTo_S16384x1024_S16384_d1 (ix1 n) i) f d
    (iotaInDim S16384x1024 32 1) hd (fun k => by pointwise [])
  have h0 : ((constant (F := Ideal) S_ .f32 0x7F800000#32) (Shape.Idx.first h_S_), (constantI S_ 32 0#32) (Shape.Idx.first h_S_))
      = ((⊤ : EReal), 0#32) := Prod.ext Consts.infinity rfl
  refine snd_at (chosen_eq d) (p := pair f (best f)) ((argReduce_fiber _ _ _ _ _ _ _ _).trans ?_)
  rw [h0, reducer_eq, h]

/-- `take` of the row a number below 1024 names is that codeword. -/
theorem taken_apply (e : FVec Ideal S1024x64 .f32) (i : IVec S16384 32) (n : Fin 16384) (k : Fin 1024)
    (hi : i (ix1 n) = BitVec.ofNat 32 k.val) (c : Fin 64) : taken e i (ix2 n c) = e (ix2 k c) := by
  have hk := k.isLt
  have hat : ∀ y, takeAt i (ix2 n y) = BitVec.ofNat 32 k.val := fun y => by
    pointwise [takeAt]
    rw [hi]
    have h0 : IntOp.cmpi .slt (BitVec.ofNat 32 k.val) 0#32 = 0#1 := by
      word_omega
    rw [h0]; rfl
  have h1 : IntOp.andi (IntOp.cmpi .sge (BitVec.ofNat 32 k.val) 0#32) (IntOp.cmpi .sle (BitVec.ofNat 32 k.val) 1023#32) = 1#1 := by
    word_omega
  pointwise [taken]
  have hg : Host.gather gather_S1024x64_S16384x1_S16384x64_1_0_n_n_0_1_164 e (takeAt i) (ix2 n c) = e (ix2 k c) :=
    Routing.gather_row (nb := 1024) (B := 64) (n := 16384) _ rfl rfl rfl rfl rfl e (takeAt i) n c k (hat 0) (by norm_num)
  rw [hg]
  simp only [hat, h1]
  rfl

/-- The shares of numbers that are the nearest codewords'. -/
theorem share_of {x : Points} {w : Codes} (i : IVec S16384 32)
    (hi : ∀ n, i (ix1 n) = BitVec.ofNat 32 (nearest (x (img n) (pos n)) w).val) (k : Fin 1024) :
    share (F := Ideal) i (ix1 k) = ((uses x w k * (1 / 16384) : ℝ) : EReal) := by
  have hbit : ∀ n, FloatOps.uitofp (F := Ideal) .f32 (IntOp.cmpi .eq (BitVec.ofNat 32 (nearest (x (img n) (pos n)) w).val) (BitVec.ofNat 32 k.val))
      = ((mark (x (img n) (pos n)) w k : ℝ) : EReal) := fun n => by
    unfold mark
    by_cases h : k = nearest (x (img n) (pos n)) w
    · rw [if_pos h, ← h]; simp [IntOp.cmpi, FloatOps.uitofp]
    · have h' : ¬ (BitVec.ofNat 32 (nearest (x (img n) (pos n)) w).val = BitVec.ofNat 32 k.val) := fun e => h (word_inj e.symm)
      rw [if_neg h]; simp [IntOp.cmpi, FloatOps.uitofp, h']
  pointwise [share, oneHot]
  simp only [hi, hbit, coe_sum]
  rw [sum_rows (fun b p => mark (x b p) w k), Consts.num_rows, Ideal.div_coe (by norm_num), ← EReal.coe_mul]
  rfl

/-- The numbers laid out as images. -/
theorem idxImages_of (i : IVec S16384 32) (b : Fin 16) (h v : Fin 32) :
    shapeCast S16x32x32 i shapeCasts_S16384_S16x32x32 (ix3 b h v) = i (ix1 ⟨b.val * 1024 + h.val * 32 + v.val, by omega⟩) := by
  pointwise []

variable {z : FVec Ideal S16x64x32x32 .f32} {e : FVec Ideal S1024x64 .f32} {x : Points} {w : Codes}

section
variable (hz : ∀ b c h v, z (ix4 b c h v) = ((x b (pix h v) c : ℝ) : EReal)) (he : ∀ k c, e (ix2 k c) = ((w k c : ℝ) : EReal))
include hz he

/-- The reference's distances. -/
theorem dist_apply (n : Fin 16384) (k : Fin 1024) :
    dist z e (ix2 n k) = ((sqDist (x (img n) (pos n)) (w k) : ℝ) : EReal) := by
  pointwise [dist, rows]
  have hp : pix ⟨n.val / 32 % 32, by omega⟩ ⟨n.val % 32, by omega⟩ = pos n := Fin.ext (by simp only [pix, pos]; omega)
  simp only [hz, he, hp, Consts.two, ← EReal.coe_mul, coe_sum, ← EReal.coe_sub, ← EReal.coe_add]
  rw [← sqDist_eq_plain]; rfl

/-- The reference's chosen numbers. -/
theorem idx_apply (n : Fin 16384) : idx z e (ix1 n) = BitVec.ofNat 32 (nearest (x (img n) (pos n)) w).val := by
  have h : idx z e = chosen (dist z e) := by delta idx; with_reducible rfl
  rw [h, chosen_apply _ n _ fun k => dist_apply hz he n k]; rfl

/-- The reference's quantised images. -/
theorem quantised_apply (b : Fin 16) (c : Fin 64) (h v : Fin 32) :
    quantised z e (ix4 b c h v) = ((w (nearest (x b (pix h v)) w) c : ℝ) : EReal) := by
  pointwise [quantised, images]
  have hn : img ⟨b.val * 1024 + h.val * 32 + v.val, by omega⟩ = b := Fin.ext (by simp only [img]; omega)
  have hp : pos ⟨b.val * 1024 + h.val * 32 + v.val, by omega⟩ = pix h v := Fin.ext (by simp only [pos, pix]; omega)
  rw [taken_apply e _ _ _ (idx_apply hz he _), he, hn, hp]

/-- The reference's straight-through images. -/
theorem through_apply (b : Fin 16) (c : Fin 64) (h v : Fin 32) :
    through z (quantised z e) (ix4 b c h v) = ((w (nearest (x b (pix h v)) w) c : ℝ) : EReal) := by
  pointwise [through]
  rw [quantised_apply hz he, hz, ← EReal.coe_sub, ← EReal.coe_add, add_sub_cancel]

/-- The reference's loss. -/
theorem loss_apply : lossOf z (quantised z e) = fun _ => ((loss x w : ℝ) : EReal) := by
  have hsum : ∀ j, Ideal.hostReduceAdd reducesTo_S16x64x32x32_S_d0_1_2_3
      (mulf (subf z (quantised z e)) (subf z (quantised z e))) 0 j = ((total x w : ℝ) : EReal) := fun j => by
    rw [Ideal.hostReduceAdd_total _ (fun b => b.elim0), sum_idx4, zero_add]
    pointwise []
    simp only [quantised_apply hz he, hz, ← EReal.coe_sub, ← EReal.coe_mul, coe_sum]
    congr 1
    unfold total
    refine Finset.sum_congr rfl fun b _ => ?_
    rw [← sum_pix, Finset.sum_comm]
    refine Finset.sum_congr rfl fun h _ => ?_
    rw [Finset.sum_comm]
    refine Finset.sum_congr rfl fun v _ => ?_
    exact Finset.sum_congr rfl fun c _ => (sq _).symm
  funext j
  pointwise [lossOf, meanSq]
  rw [hsum, Consts.quarter, Consts.entries, Ideal.div_coe (by norm_num), ← EReal.coe_mul, ← EReal.coe_mul, ← EReal.coe_add]
  congr 1
  unfold loss; ring

/-- The reference's shares. -/
theorem share_apply (k : Fin 1024) : share (F := Ideal) (idx z e) (ix1 k) = ((uses x w k * (1 / 16384) : ℝ) : EReal) :=
  share_of _ (fun n => idx_apply hz he n) k

/-- The reference's perplexity. -/
theorem perp_apply : perpOf (share (F := Ideal) (idx z e)) = fun _ => perplexity x w := by
  funext j
  pointwise [perpOf]
  simp only [share_apply hz he]
  rfl

/-- The reference's chosen numbers, as images. -/
theorem idxImages_apply (b : Fin 16) (h v : Fin 32) :
    shapeCast S16x32x32 (idx z e) shapeCasts_S16384_S16x32x32 (ix3 b h v) = BitVec.ofNat 32 (nearest (x b (pix h v)) w).val := by
  rw [idxImages_of]
  have hn : img ⟨b.val * 1024 + h.val * 32 + v.val, by omega⟩ = b := Fin.ext (by simp only [img]; omega)
  have hp : pos ⟨b.val * 1024 + h.val * 32 + v.val, by omega⟩ = pix h v := Fin.ext (by simp only [pos, pix]; omega)
  rw [idx_apply hz he, hn, hp]

end
end Cert.ReferenceIdeal.Value

end
-- ==== Proof.ImageValue.lean ====
/-
  One image's arithmetic in the kernel, on real points and real codewords: the distances, the nearest codewords' numbers,
  the marks, the selected codewords, and the sums over the image's pixels.
-/
module
public import proofs.«01_k».proof.Proof.RefValue
public import proofs.«01_k».proof.Proof.Gen.KernelIdeal.Frame
@[expose] public section
set_option maxRecDepth 16384
noncomputable section
namespace Cert.KernelIdeal.Value
open Cert.KernelIdeal Cert.KernelIdeal.Gen Idealize.ShloMosaic Cert.Nearest

section
variable {w : Codes} {y : Fin 1024 → Fin 64 → ℝ}
  {a : FVec Ideal S1024x64 .f32} {b : FVec Ideal S64x1024 .f32} {s : Vec Ideal S1x64x1024 .f32}
variable (ha : ∀ k c, a (ix2 k c) = ((-2 * w k c : ℝ) : EReal)) (hs : ∀ c r, s (ix3 0 c r) = ((y r c : ℝ) : EReal))
include ha hs

/-- The distances. -/
theorem dist_apply (k r : Fin 1024) : k0_pay26 a s (ix2 k r) = ((sqDist (y r) (w k) : ℝ) : EReal) := by
  pointwise [k0_pay26, k0_pay25]
  simp only [ha, hs, Consts.quarter, ← EReal.coe_mul, coe_sum, ← EReal.coe_add]
  rw [← sqDist_eq_scaled]

/-- The least distances. -/
theorem least_apply (r : Fin 1024) : k0_pay27 a s (ix2 0 r) = ((least (y r) w : ℝ) : EReal) := by
  pointwise [k0_pay27]
  simp only [dist_apply ha hs, Consts.infinity]
  rw [fold_min fun k => sqDist (y r) (w k)]; rfl

/-- The nearest codewords' numbers. -/
theorem nearest_apply (r : Fin 1024) : k0_pay28 a s (ix2 0 r) = BitVec.ofNat 32 (nearest (y r) w).val := by
  pointwise [k0_pay28]
  simp only [dist_apply ha hs, least_apply ha hs]
  exact fold_minsi fun k => sqDist (y r) (w k)

/-- The marks. -/
theorem mark_apply (k r : Fin 1024) : k0_pay29 a s (ix2 k r) = ((mark (y r) w k : ℝ) : EReal) := by
  pointwise [k0_pay29]
  rw [nearest_apply ha hs]
  unfold mark
  by_cases h : k = nearest (y r) w
  · rw [if_pos h, ← h]; simp [IntOp.cmpi, FloatOps.sitofp]
  · have h' : ¬ (BitVec.ofNat 32 k.val = BitVec.ofNat 32 (nearest (y r) w).val) := fun e => h (word_inj e)
    rw [if_neg h]; simp [IntOp.cmpi, FloatOps.sitofp, beq_eq_false_iff_ne.mpr h']

/-- The sum of the least distances. -/
theorem leastSum_apply : k0_pay31 a s = ((∑ r, least (y r) w : ℝ) : EReal) := by
  pointwise [k0_pay31]
  simp only [least_apply ha hs, coe_sum]
  simp

/-- The numbers of pixels per codeword, added to earlier ones. -/
theorem counts_apply (v : FVec Ideal S1024x1 .f32) (k : Fin 1024) :
    k0_pay35 v (k0_pay29 a s) (ix2 k 0) = v (ix2 k 0) + ((∑ r, mark (y r) w k : ℝ) : EReal) := by
  pointwise [k0_pay35]
  simp only [mark_apply ha hs, coe_sum]

section
variable (hb : ∀ c k, b (ix2 c k) = ((w k c : ℝ) : EReal))
include hb

/-- The selected codewords. -/
theorem taken_apply (c : Fin 64) (r : Fin 1024) : k0_pay30 a b s (ix2 c r) = ((w (nearest (y r) w) c : ℝ) : EReal) := by
  pointwise [k0_pay30]
  simp only [mark_apply ha hs, hb, ← EReal.coe_mul, coe_sum]
  rw [sum_mark (y r) w fun k => w k c]

/-- The straight-through image. -/
theorem through_apply (c : Fin 64) (r : Fin 1024) :
    k0_pay32 (k0_pay25 s) (k0_pay30 a b s) (ix3 0 c r) = ((w (nearest (y r) w) c : ℝ) : EReal) := by
  pointwise [k0_pay32, k0_pay25]
  rw [taken_apply ha hs hb, hs, ← EReal.coe_sub, ← EReal.coe_add, add_sub_cancel]

end

/-- The numbers as a row of a block. -/
theorem idxRow_apply (r : Fin 1024) :
    k0_pay33 (k0_pay28 a s) (ix3 0 0 r) = BitVec.ofNat 32 (nearest (y r) w).val := by
  pointwise [k0_pay33]
  exact nearest_apply ha hs r

end
end Cert.KernelIdeal.Value

end
-- ==== Proof.Block.lean ====
/-
  A block of four images in the kernel: its images read and written one by one, the four images' arithmetic as one image's,
  and the block's two totals, on real points and real codewords.
-/
module
public import proofs.«01_k».proof.Proof.ImageValue
public import Idealize.ShloMosaic.Lib.Pipeline.ValueKit.Tiles
public import Idealize.ShloMosaic.Lib.Pipeline.Value
public import Idealize.ShloMosaic.Lib.Tactic
@[expose] public section
set_option maxRecDepth 16384
noncomputable section
namespace Cert.KernelIdeal.Value
open Cert.KernelIdeal Cert.KernelIdeal.Gen Idealize.ShloMosaic Idealize.ShloMosaic.TcCoe Cert.Nearest

/-- Image `g` of a block of four images. -/
def slab (g : Fin 4) (x : Vec Ideal S4x64x1024 .f32) : Vec Ideal S1x64x1024 .f32 := fun j => x (ix3 g (j 1) (j 2))

/-- A load of one image of a block reads that image. -/
theorem ld_slab (g : Fin 4) (off : Fin 3 → ℕ) (h : off = ![g.val, 0, 0])
    (inb : ∀ a, off a + S1x64x1024.size a ≤ S4x64x1024.size a) (x : Vec Ideal S4x64x1024 .f32) :
    View.ld (Val := Elt Ideal) (e' := .f32) x (Rect.unit off S1x64x1024.size inb) = slab g x := by
  subst h
  funext j
  refine View.ld_unit_apply_of x _ _ inb j (ix3 g (j 1) (j 2)) fun a => ?_
  have h0 : (j 0).val < 1 := (j 0).isLt
  fin_cases a
  · show g.val = g.val + (j 0).val; omega
  · show (j 1).val = 0 + (j 1).val; omega
  · show (j 2).val = 0 + (j 2).val; omega

/-- A store of one image of a block, where it agrees with the block `V`. -/
theorem tile_image {e : EltTy} (n : ℕ) (p : (⟨3, ![1, n, 1024]⟩ : Shape).Idx → Elt Ideal e) (V : (⟨3, ![4, n, 1024]⟩ : Shape).Idx → Elt Ideal e)
    (g : Fin 4) (off : Fin 3 → ℕ) (hoff : off = ![g.val, 0, 0]) (h : ∀ c r, p (ix3 0 c r) = V (ix3 g c r))
    (y : (⟨3, ![4, n, 1024]⟩ : Shape).Idx) :
    View.TileAt (Val := Elt Ideal) (S := ⟨3, ![4, n, 1024]⟩) y off ![1, n, 1024] p (V y) := by
  subst hoff
  intro x hx
  have h0 : (x 0).val < 1 := (x 0).isLt
  have hxe : x = ix3 (0 : Fin 1) (x 1) (x 2) := by
    funext a; apply Fin.ext; fin_cases a
    · show (x 0).val = 0; omega
    · rfl
    · rfl
  have hye : y = ix3 g (x 1) (x 2) := by
    funext a; apply Fin.ext; refine (hx a).trans ?_; fin_cases a
    · show g.val + (x 0).val = g.val; omega
    · show 0 + (x 1).val = (x 1).val; omega
    · show 0 + (x 2).val = (x 2).val; omega
  exact (congrArg p hxe).trans ((h (x 1) (x 2)).trans (congrArg V hye).symm)

/-- Four stores, one per image, read back. -/
theorem canon_images (p0 p1 p2 p3 : Vec Ideal S1x64x1024 .f32) (V : Vec Ideal S4x64x1024 .f32)
    (h0 : ∀ c r, p0 (ix3 0 c r) = V (ix3 0 c r)) (h1 : ∀ c r, p1 (ix3 0 c r) = V (ix3 1 c r))
    (h2 : ∀ c r, p2 (ix3 0 c r) = V (ix3 2 c r)) (h3 : ∀ c r, p3 (ix3 0 c r) = V (ix3 3 c r)) :
    View.canon (Val := Elt Ideal) (e := .f32)
      [⟨Rect.unit ![3, 0, 0] ![1, 64, 1024] inb_S4x64x1024_S1x64x1024_3_0_0, p3⟩,
       ⟨Rect.unit ![2, 0, 0] ![1, 64, 1024] inb_S4x64x1024_S1x64x1024_2_0_0, p2⟩,
       ⟨Rect.unit ![1, 0, 0] ![1, 64, 1024] inb_S4x64x1024_S1x64x1024_1_0_0, p1⟩,
       ⟨Rect.unit ![0, 0, 0] ![1, 64, 1024] inb_S4x64x1024_S1x64x1024_0_0_0, p0⟩] = V :=
  funext fun y => View.canon_eq_of_allAt _ y _ (View.cover_of_tiledL (s := S4x64x1024) _ S1x64x1024.size (by sl_kernel_rfl) y)
    (View.allAt_cons_unit _ _ _ _ _ (tile_image 64 p3 V 3 _ rfl h3 y)
    (View.allAt_cons_unit _ _ _ _ _ (tile_image 64 p2 V 2 _ rfl h2 y)
    (View.allAt_cons_unit _ _ _ _ _ (tile_image 64 p1 V 1 _ rfl h1 y)
    (View.allAt_cons_unit _ _ _ _ _ (tile_image 64 p0 V 0 _ rfl h0 y) (View.allAt_nil _ _)))))

/-- Four stores, one row per image, read back. -/
theorem canon_rows (p0 p1 p2 p3 : Vec Ideal S1x1x1024 .i32) (V : Vec Ideal S4x1x1024 .i32)
    (h0 : ∀ c r, p0 (ix3 0 c r) = V (ix3 0 c r)) (h1 : ∀ c r, p1 (ix3 0 c r) = V (ix3 1 c r))
    (h2 : ∀ c r, p2 (ix3 0 c r) = V (ix3 2 c r)) (h3 : ∀ c r, p3 (ix3 0 c r) = V (ix3 3 c r)) :
    View.canon (Val := Elt Ideal) (e := .i32)
      [⟨Rect.unit ![3, 0, 0] ![1, 1, 1024] inb_S4x1x1024_S1x1x1024_3_0_0, p3⟩,
       ⟨Rect.unit ![2, 0, 0] ![1, 1, 1024] inb_S4x1x1024_S1x1x1024_2_0_0, p2⟩,
       ⟨Rect.unit ![1, 0, 0] ![1, 1, 1024] inb_S4x1x1024_S1x1x1024_1_0_0, p1⟩,
       ⟨Rect.unit ![0, 0, 0] ![1, 1, 1024] inb_S4x1x1024_S1x1x1024_0_0_0, p0⟩] = V :=
  funext fun y => View.canon_eq_of_allAt _ y _ (View.cover_of_tiledL (s := S4x1x1024) _ S1x1x1024.size (by sl_kernel_rfl) y)
    (View.allAt_cons_unit _ _ _ _ _ (tile_image 1 p3 V 3 _ rfl h3 y)
    (View.allAt_cons_unit _ _ _ _ _ (tile_image 1 p2 V 2 _ rfl h2 y)
    (View.allAt_cons_unit _ _ _ _ _ (tile_image 1 p1 V 1 _ rfl h1 y)
    (View.allAt_cons_unit _ _ _ _ _ (tile_image 1 p0 V 0 _ rfl h0 y) (View.allAt_nil _ _)))))

section
variable {F : FTy → Type} [FloatOps F]

/-- The first image of a block goes through the arithmetic of the second. -/
theorem image0 (a : Vec F S1024x64 .f32) (b : Vec F S64x1024 .f32) (s : Vec F S1x64x1024 .f32) :
    k0_pay22 (k0_pay21 a b s) = k0_pay32 (k0_pay25 s) (k0_pay30 (k0_pay12 a) (k0_pay13 b) s) := rfl
/-- The third image of a block goes through the arithmetic of the second. -/
theorem image2 (a : FVec F S1024x64 .f32) (b : FVec F S64x1024 .f32) (s : Vec F S1x64x1024 .f32) :
    k0_pay41 b (k0_pay36 s) (k0_pay40 a s) (constant S64x1024 .f32 0#32) = k0_pay32 (k0_pay25 s) (k0_pay30 a b s) := rfl
/-- The fourth image of a block goes through the arithmetic of the second. -/
theorem image3 (a : FVec F S1024x64 .f32) (b : FVec F S64x1024 .f32) (s : Vec F S1x64x1024 .f32) :
    k0_pay3 b (k0_pay45 s) (iota .tc S1024x1024 32 [0] iota_S1024x1024_d0_w32) (k0_pay48 a s)
      = k0_pay32 (k0_pay25 s) (k0_pay30 a b s) := rfl
/-- The first image's numbers are found as the second's. -/
theorem row0 (a : Vec F S1024x64 .f32) (s : Vec F S1x64x1024 .f32) :
    k0_pay23 (k0_pay17 a s) = k0_pay33 (k0_pay28 (k0_pay12 a) s) := rfl
/-- The third image's numbers are found as the second's. -/
theorem row2 (a : FVec F S1024x64 .f32) (s : Vec F S1x64x1024 .f32) :
    k0_pay42 (k0_pay39 a s) = k0_pay33 (k0_pay28 a s) := rfl
/-- The fourth image's numbers are found as the second's. -/
theorem row3 (a : FVec F S1024x64 .f32) (s : Vec F S1x64x1024 .f32) :
    k0_pay4 (k0_pay48 a s) = k0_pay33 (k0_pay28 a s) := rfl
/-- The first image's marks are the second's. -/
theorem marks0 (a : Vec F S1024x64 .f32) (s : Vec F S1x64x1024 .f32) : k0_pay18 a s = k0_pay29 (k0_pay12 a) s := rfl
/-- The third image's marks are the second's. -/
theorem marks2 (v : FVec F S1024x1 .f32) (a : FVec F S1024x64 .f32) (s : Vec F S1x64x1024 .f32) :
    k0_pay44 v (k0_pay40 a s) = k0_pay35 v (k0_pay29 a s) := rfl
/-- The fourth image's marks are the second's. -/
theorem marks3 (v : FVec F S1024x1 .f32) (a : FVec F S1024x64 .f32) (s : Vec F S1x64x1024 .f32) :
    k0_pay6 v (iota .tc S1024x1024 32 [0] iota_S1024x1024_d0_w32) (k0_pay48 a s) = k0_pay35 v (k0_pay29 a s) := rfl
/-- The first image's least distances are summed as the second's. -/
theorem sums0 (a : Vec F S1024x64 .f32) (s : Vec F S1x64x1024 .f32) : k0_pay19 a s = k0_pay31 (k0_pay12 a) s := rfl
/-- The third image's least distances are summed as the second's. -/
theorem sums2 (v : F .f32) (a : FVec F S1024x64 .f32) (s : Vec F S1x64x1024 .f32) :
    k0_pay43 v (k0_pay38 a s) = Scalar.addf v (k0_pay31 a s) := rfl
/-- The fourth image's least distances are summed as the second's. -/
theorem sums3 (v : F .f32) (a : FVec F S1024x64 .f32) (s : Vec F S1x64x1024 .f32) :
    k0_pay5 v (k0_pay47 a s) = Scalar.addf v (k0_pay31 a s) := rfl

end

section
variable {w : Codes} {y : Fin 4 → Fin 1024 → Fin 64 → ℝ}
  {a : Vec Ideal S1024x64 .f32} {b : Vec Ideal S64x1024 .f32} {s0 s1 s2 s3 : Vec Ideal S1x64x1024 .f32}
variable (ha : ∀ k c, a (ix2 k c) = ((-2 * w k c : ℝ) : EReal))
  (h0 : ∀ c r, s0 (ix3 0 c r) = ((y 0 r c : ℝ) : EReal)) (h1 : ∀ c r, s1 (ix3 0 c r) = ((y 1 r c : ℝ) : EReal))
  (h2 : ∀ c r, s2 (ix3 0 c r) = ((y 2 r c : ℝ) : EReal)) (h3 : ∀ c r, s3 (ix3 0 c r) = ((y 3 r c : ℝ) : EReal))

/-- The body's view of the scaled codewords is the codewords. -/
theorem pay12_eq : k0_pay12 a = a := by unfold k0_pay12; exact shapeCast_self _ _
/-- The body's view of the transposed codewords is the transposed codewords. -/
theorem pay13_eq : k0_pay13 b = b := by unfold k0_pay13; exact shapeCast_self _ _

/-- Four reals added one after another. -/
theorem coe_four (f0 f1 f2 f3 : ℝ) (f : Fin 4 → ℝ) (e0 : f 0 = f0) (e1 : f 1 = f1) (e2 : f 2 = f2) (e3 : f 3 = f3) :
    (((f0 : EReal) + f1) + f2) + f3 = ((∑ g, f g : ℝ) : EReal) := by
  rw [Fin.sum_univ_four, e0, e1, e2, e3, EReal.coe_add, EReal.coe_add, EReal.coe_add]

include ha h0 h1 h2 h3

/-- The numbers of a block's pixels per codeword. -/
theorem tally_apply (k : Fin 1024) :
    k0_pay6 (k0_pay44 (k0_pay35 (k0_pay20 a s0) (k0_pay29 a s1)) (k0_pay40 a s2))
      (iota .tc S1024x1024 32 [0] iota_S1024x1024_d0_w32) (k0_pay48 a s3) (ix2 k 0)
      = ((∑ g, ∑ r, mark (y g r) w k : ℝ) : EReal) := by
  have e0 : k0_pay20 a s0 (ix2 k 0) = ∑ r, k0_pay29 (k0_pay12 a) s0 (ix2 k r) := by
    rw [← marks0]
    pointwise [k0_pay20]
  rw [marks3, counts_apply ha h3, marks2, counts_apply ha h2, counts_apply ha h1, e0, pay12_eq]
  simp only [mark_apply ha h0, coe_sum]
  exact coe_four _ _ _ _ _ rfl rfl rfl rfl

/-- The sum of a block's least distances. -/
theorem squares_apply :
    k0_pay5 (k0_pay43 (k0_pay34 (k0_pay24 (k0_pay19 a s0)) (k0_pay31 a s1)) (k0_pay38 a s2)) (k0_pay47 a s3)
      = ((∑ g, ∑ r, least (y g r) w : ℝ) : EReal) := by
  have hadd : ∀ v u : EReal, Scalar.addf (F := Ideal) (φ := .f32) v u = v + u := fun _ _ => rfl
  have e1 : ∀ v u : EReal, k0_pay34 (F := Ideal) v u = v + u := fun _ _ => rfl
  have e0 : ∀ u : EReal, k0_pay24 (F := Ideal) u = u := fun u => by
    unfold k0_pay24
    exact (congrArg (· + u) (Ideal.ofBits_zero_f32)).trans (zero_add u)
  rw [sums3, sums2, sums0, pay12_eq, e0, e1, hadd, hadd, leastSum_apply ha h0, leastSum_apply ha h1, leastSum_apply ha h2,
    leastSum_apply ha h3]
  exact coe_four _ _ _ _ _ rfl rfl rfl rfl
end

/-- The straight-through images of a block. -/
def images (y : Fin 4 → Fin 1024 → Fin 64 → ℝ) (w : Codes) : Vec Ideal S4x64x1024 .f32 :=
  fun j => ((w (nearest (y (j 0) (j 2)) w) (j 1) : ℝ) : EReal)
/-- The chosen numbers of a block. -/
def numbers (y : Fin 4 → Fin 1024 → Fin 64 → ℝ) (w : Codes) : Vec Ideal S4x1x1024 .i32 :=
  fun j => BitVec.ofNat 32 (nearest (y (j 0) (j 2)) w).val
/-- The numbers of a block's pixels per codeword. -/
def tally (y : Fin 4 → Fin 1024 → Fin 64 → ℝ) (w : Codes) (k : Fin 1024) : ℝ := ∑ g, ∑ r, mark (y g r) w k
/-- The sum of a block's least distances. -/
def squares (y : Fin 4 → Fin 1024 → Fin 64 → ℝ) (w : Codes) : ℝ := ∑ g, ∑ r, least (y g r) w

/-- Zero offsets. -/
theorem hz : (![0, 0] : Fin 2 → Nat) = fun _ => 0 := funext fun a => by fin_cases a <;> rfl

/-- The straight-through image of a pixel of a block. -/
theorem images_apply (y : Fin 4 → Fin 1024 → Fin 64 → ℝ) (w : Codes) (g : Fin 4) (c : Fin 64) (r : Fin 1024) :
    images y w (ix3 g c r) = ((w (nearest (y g r) w) c : ℝ) : EReal) := rfl
/-- The chosen number of a pixel of a block. -/
theorem numbers_apply (y : Fin 4 → Fin 1024 → Fin 64 → ℝ) (w : Codes) (g : Fin 4) (r : Fin 1024) :
    numbers y w (ix3 g 0 r) = BitVec.ofNat 32 (nearest (y g r) w).val := rfl

section
variable {w : Codes} {y : Fin 4 → Fin 1024 → Fin 64 → ℝ}
  {a : Vec Ideal S1024x64 .f32} {b : Vec Ideal S64x1024 .f32} {x : Vec Ideal S4x64x1024 .f32}
variable (ha : ∀ k c, a (ix2 k c) = ((-2 * w k c : ℝ) : EReal)) (hb : ∀ c k, b (ix2 c k) = ((w k c : ℝ) : EReal))
  (hx : ∀ g c r, x (ix3 g c r) = ((y g r c : ℝ) : EReal))
include ha hx

/-- The numbers of a block's image. -/
theorem slab_row (g : Fin 4) (c : Fin 1) (r : Fin 1024) :
    k0_pay33 (k0_pay28 a (slab g x)) (ix3 0 c r) = numbers y w (ix3 g c r) := by
  obtain rfl : c = 0 := Subsingleton.elim _ _
  rw [idxRow_apply ha (y := y g) (fun c r => hx g c r), numbers_apply]

include hb in
/-- The straight-through image of a block's image. -/
theorem slab_image (g : Fin 4) (c : Fin 64) (r : Fin 1024) :
    k0_pay32 (k0_pay25 (slab g x)) (k0_pay30 a b (slab g x)) (ix3 0 c r) = images y w (ix3 g c r) := by
  rw [through_apply ha (y := y g) (fun c r => hx g c r) hb, images_apply]

end

/-- A point's sum of least distances is added to the earlier points'. -/
theorem running {F : FTy → Type} [FloatOps F] (p : F .f32) (q : FVec F S1x1024 .f32) (u : F .f32) :
    k0_pay9 p q u = Scalar.addf u (k0_pay5 p q) := rfl

section
variable {w : Codes} {y : Fin 4 → Fin 1024 → Fin 64 → ℝ}
  {a : Vec Ideal S1024x64 .f32} {s0 s1 s2 s3 : Vec Ideal S1x64x1024 .f32}
variable (ha : ∀ k c, a (ix2 k c) = ((-2 * w k c : ℝ) : EReal))
  (h0 : ∀ c r, s0 (ix3 0 c r) = ((y 0 r c : ℝ) : EReal)) (h1 : ∀ c r, s1 (ix3 0 c r) = ((y 1 r c : ℝ) : EReal))
  (h2 : ∀ c r, s2 (ix3 0 c r) = ((y 2 r c : ℝ) : EReal)) (h3 : ∀ c r, s3 (ix3 0 c r) = ((y 3 r c : ℝ) : EReal))
include ha h0 h1 h2 h3

/-- The sum of the least distances of a block and of the earlier ones. -/
theorem running_squares {v : ℝ} (u : EReal) (hu : u = ((v : ℝ) : EReal)) :
    k0_pay9 (F := Ideal) (k0_pay43 (k0_pay34 (k0_pay24 (k0_pay19 a s0)) (k0_pay31 a s1)) (k0_pay38 a s2)) (k0_pay47 a s3) u
      = ((v + squares y w : ℝ) : EReal) := by
  have hadd : ∀ v u : EReal, Scalar.addf (F := Ideal) (φ := .f32) v u = v + u := fun _ _ => rfl
  rw [running, squares_apply ha h0 h1 h2 h3, hadd, hu, ← EReal.coe_add, squares]

/-- The numbers of pixels per codeword of a block and of the earlier ones. -/
theorem running_tally {n : Fin 1024 → ℝ} (u : Vec Ideal S1024x1 .f32) (hu : ∀ k, u (ix2 k 0) = ((n k : ℝ) : EReal)) (k : Fin 1024) :
    k0_pay8 (k0_pay44 (k0_pay35 (k0_pay20 a s0) (k0_pay29 a s1)) (k0_pay40 a s2))
      (iota .tc S1024x1024 32 [0] iota_S1024x1024_d0_w32) (k0_pay48 a s3) u (ix2 k 0) = ((n k + tally y w k : ℝ) : EReal) := by
  unfold k0_pay8
  rw [shapeCast_self, EReal.coe_add, ← hu]
  exact congrArg (u (ix2 k 0) + ·) (tally_apply ha h0 h1 h2 h3 k)

end

/-- The loss made of a total. -/
theorem lossCell (u : ℝ) (j : S1x1.Idx) :
    k0_pay10 (F := Ideal) ((u : ℝ) : EReal) j = ((1.25 * u * (1 / 1048576) : ℝ) : EReal) := by
  pointwise [k0_pay10]
  rw [Consts.five_quarters, Consts.entries, Ideal.div_coe (by norm_num), ← EReal.coe_mul, ← EReal.coe_mul]

/-- The perplexity made of numbers of pixels per codeword. -/
theorem perpCell (u : Vec Ideal S1024x1 .f32) (n : Fin 1024 → ℝ) (hu : ∀ k, u (ix2 k 0) = ((n k : ℝ) : EReal)) (j : S1x1.Idx) :
    k0_pay11 (F := Ideal) u j = Ideal.exp (-∑ k, ((n k * (1 / 16384) : ℝ) : EReal)
      * Ideal.log (max ((n k * (1 / 16384) : ℝ) : EReal) (Ideal.ofBits .f32 0x2EDBE6FF#32))) := by
  pointwise [k0_pay11]
  simp only [hu, Consts.per_row, ← EReal.coe_mul]
  simp only [Finset.sum_const, Finset.card_univ, Fintype.card_fin, one_smul, zero_sub]

end Cert.KernelIdeal.Value

end
-- ==== Proof.BodyValue.lean ====
/-
  What the kernel's body leaves for one block of four images, on real points and real codewords: the straight-through
  images, the chosen numbers, and the two running totals, in each of the body's three cases.
-/
module
public import proofs.«01_k».proof.Proof.Block
@[expose] public section
set_option maxRecDepth 16384
noncomputable section
namespace Cert.KernelIdeal.Value
open Cert.KernelIdeal Cert.KernelIdeal.Gen Idealize.ShloMosaic Idealize.ShloMosaic.TcCoe Cert.Nearest

section
variable (c : Dev nD) (i : grid0.Coords) (arg1 : Memref sig .tc .vmem S4x64x1024 .f32) (harg1 : arg1.IsWhole)
  (arg2 : Memref sig .tc .vmem S1024x64 .f32) (harg2 : arg2.IsWhole) (arg3 : Memref sig .tc .vmem S64x1024 .f32) (harg3 : arg3.IsWhole)
  (arg4 : Memref sig .tc .vmem S4x64x1024 .f32) (harg4 : arg4.IsWhole) (arg5 : Memref sig .tc .vmem S4x1x1024 .i32) (harg5 : arg5.IsWhole)
  (arg6 : Memref sig .tc .vmem S1x1 .f32) (harg6 : arg6.IsWhole) (arg7 : Memref sig .tc .vmem S1x1 .f32) (harg7 : arg7.IsWhole)
  (arg8 : Memref sig .tc .vmem S1024x1 .f32) (harg8 : arg8.IsWhole) (arg9 : Memref sig .tc .smem S1x1 .f32) (harg9 : arg9.IsWhole)
  {x0 : Vec Ideal S4x64x1024 .f32} {x1 : Vec Ideal S1024x64 .f32} {x2 : Vec Ideal S64x1024 .f32}
  {xs0 : Vec Ideal S1024x1 .f32} {xs1 : Vec Ideal S1x1 .f32}
  {w : Codes} {y : Fin 4 → Fin 1024 → Fin 64 → ℝ} {n : Fin 1024 → ℝ} {v : ℝ}
  (h0 : ∀ g c r, x0 (ix3 g c r) = ((y g r c : ℝ) : EReal)) (h1 : ∀ k c, x1 (ix2 k c) = ((-2 * w k c : ℝ) : EReal))
  (h2 : ∀ c k, x2 (ix2 c k) = ((w k c : ℝ) : EReal)) (hn : ∀ k, xs0 (ix2 k 0) = ((n k : ℝ) : EReal)) (hv : ∀ j, xs1 j = ((v : ℝ) : EReal))

include h0 h1 h2 in
/-- The first point: the images. -/
theorem out_A_3 (hc0 : cond0_0 i) (hc1 : ¬cond0_1 i) (hc2 : ¬cond0_2 i) : out0_A_3 c i arg1 harg1 arg2 harg2 arg3 harg3 arg4 harg4 arg5 harg5 arg6 harg6 arg7 harg7 arg8 harg8 arg9 harg9 hc0 hc1 hc2 x0 x1 x2 = images y w := by
  unfold out0_A_3
  rw [View.read_writes_eq_canon _ _ _ (cover0_A_3 c i arg1 harg1 arg2 harg2 arg3 harg3 arg4 harg4 arg5 harg5 arg6 harg6 arg7 harg7 arg8 harg8 arg9 harg9 hc0 hc1 hc2 x0 x1 x2)]
  unfold kernelRun0_A
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_images _ _ _ _ _ (slab_image h1 h2 h0 0) (slab_image h1 h2 h0 1) (slab_image h1 h2 h0 2) (slab_image h1 h2 h0 3)

include h0 h1 in
/-- The first point: the numbers. -/
theorem out_A_4 (hc0 : cond0_0 i) (hc1 : ¬cond0_1 i) (hc2 : ¬cond0_2 i) : out0_A_4 c i arg1 harg1 arg2 harg2 arg3 harg3 arg4 harg4 arg5 harg5 arg6 harg6 arg7 harg7 arg8 harg8 arg9 harg9 hc0 hc1 hc2 x0 x1 x2 = numbers y w := by
  unfold out0_A_4
  rw [View.read_writes_eq_canon _ _ _ (cover0_A_4 c i arg1 harg1 arg2 harg2 arg3 harg3 arg4 harg4 arg5 harg5 arg6 harg6 arg7 harg7 arg8 harg8 arg9 harg9 hc0 hc1 hc2 x0 x1 x2)]
  unfold kernelRun0_A
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_rows _ _ _ _ _ (slab_row h1 h0 0) (slab_row h1 h0 1) (slab_row h1 h0 2) (slab_row h1 h0 3)

include h0 h1 in
/-- The first point: the numbers of pixels per codeword. -/
theorem sout_A_0 (hc0 : cond0_0 i) (hc1 : ¬cond0_1 i) (hc2 : ¬cond0_2 i) (k : Fin 1024) :
    sout0_A_0 c i arg1 harg1 arg2 harg2 arg3 harg3 arg4 harg4 arg5 harg5 arg6 harg6 arg7 harg7 arg8 harg8 arg9 harg9 hc0 hc1 hc2 x0 x1 x2 (ix2 k 0) = ((tally y w k : ℝ) : EReal) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 hc2 x0 x1 x2)]
  unfold kernelRun0_A
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1024x1) hz]
  unfold k0_pay7
  rw [shapeCast_self]
  exact tally_apply h1 (y := y) (fun c r => h0 0 c r) (fun c r => h0 1 c r) (fun c r => h0 2 c r) (fun c r => h0 3 c r) k

include h0 h1 in
/-- The first point: the sum of the least distances. -/
theorem sout_A_1 (hc0 : cond0_0 i) (hc1 : ¬cond0_1 i) (hc2 : ¬cond0_2 i) (j : S1x1.Idx) :
    sout0_A_1 c i arg1 harg1 arg2 harg2 arg3 harg3 arg4 harg4 arg5 harg5 arg6 harg6 arg7 harg7 arg8 harg8 arg9 harg9 hc0 hc1 hc2 x0 x1 x2 j = ((squares y w : ℝ) : EReal) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 x0 x1 x2)]
  unfold kernelRun0_A
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1x1) hz]
  exact squares_apply h1 (y := y) (fun c r => h0 0 c r) (fun c r => h0 1 c r) (fun c r => h0 2 c r) (fun c r => h0 3 c r)

include h0 h1 h2 in
/-- The middle points: the images. -/
theorem out_B_3 (hc0 : ¬cond0_0 i) (hc1 : cond0_1 i) (hc2 : ¬cond0_2 i) : out0_B_3 c i arg1 harg1 arg2 harg2 arg3 harg3 arg4 harg4 arg5 harg5 arg6 harg6 arg7 harg7 arg8 harg8 arg9 harg9 hc0 hc1 hc2 x0 x1 x2 xs0 xs1 = images y w := by
  unfold out0_B_3
  rw [View.read_writes_eq_canon _ _ _ (cover0_B_3 c i arg1 harg1 arg2 harg2 arg3 harg3 arg4 harg4 arg5 harg5 arg6 harg6 arg7 harg7 arg8 harg8 arg9 harg9 hc0 hc1 hc2 x0 x1 x2 xs0 xs1)]
  unfold kernelRun0_B
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_images _ _ _ _ _ (slab_image h1 h2 h0 0) (slab_image h1 h2 h0 1) (slab_image h1 h2 h0 2) (slab_image h1 h2 h0 3)

include h0 h1 in
/-- The middle points: the numbers. -/
theorem out_B_4 (hc0 : ¬cond0_0 i) (hc1 : cond0_1 i) (hc2 : ¬cond0_2 i) : out0_B_4 c i arg1 harg1 arg2 harg2 arg3 harg3 arg4 harg4 arg5 harg5 arg6 harg6 arg7 harg7 arg8 harg8 arg9 harg9 hc0 hc1 hc2 x0 x1 x2 xs0 xs1 = numbers y w := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 hc2 x0 x1 x2 xs0 xs1)]
  unfold kernelRun0_B
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_rows _ _ _ _ _ (slab_row h1 h0 0) (slab_row h1 h0 1) (slab_row h1 h0 2) (slab_row h1 h0 3)

include h0 h1 hn in
/-- The middle points: the numbers of pixels per codeword. -/
theorem sout_B_0 (hc0 : ¬cond0_0 i) (hc1 : cond0_1 i) (hc2 : ¬cond0_2 i) (k : Fin 1024) :
    sout0_B_0 c i arg1 harg1 arg2 harg2 arg3 harg3 arg4 harg4 arg5 harg5 arg6 harg6 arg7 harg7 arg8 harg8 arg9 harg9 hc0 hc1 hc2 x0 x1 x2 xs0 xs1 (ix2 k 0) = ((n k + tally y w k : ℝ) : EReal) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 hc2 x0 x1 x2 xs0 xs1)]
  unfold kernelRun0_B
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1024x1) hz]
  rw [View.ld_unit_zero (S := S1024x1) hz]
  exact running_tally h1 (y := y) (fun c r => h0 0 c r) (fun c r => h0 1 c r) (fun c r => h0 2 c r) (fun c r => h0 3 c r) xs0 hn k

include h0 h1 hv in
/-- The middle points: the sum of the least distances. -/
theorem sout_B_1 (hc0 : ¬cond0_0 i) (hc1 : cond0_1 i) (hc2 : ¬cond0_2 i) (j : S1x1.Idx) :
    sout0_B_1 c i arg1 harg1 arg2 harg2 arg3 harg3 arg4 harg4 arg5 harg5 arg6 harg6 arg7 harg7 arg8 harg8 arg9 harg9 hc0 hc1 hc2 x0 x1 x2 xs0 xs1 j = ((v + squares y w : ℝ) : EReal) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 hc2 x0 x1 x2 xs0 xs1)]
  unfold kernelRun0_B
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1x1) hz]
  rw [View.ld_unit_zero (S := S1x1) hz]
  exact running_squares h1 (y := y) (fun c r => h0 0 c r) (fun c r => h0 1 c r) (fun c r => h0 2 c r) (fun c r => h0 3 c r) _ (hv _)

include h0 h1 h2 in
/-- The last point: the images. -/
theorem out_C_3 (hc0 : ¬cond0_0 i) (hc1 : cond0_1 i) (hc2 : cond0_2 i) : out0_C_3 c i arg1 harg1 arg2 harg2 arg3 harg3 arg4 harg4 arg5 harg5 arg6 harg6 arg7 harg7 arg8 harg8 arg9 harg9 hc0 hc1 hc2 x0 x1 x2 xs0 xs1 = images y w := by
  unfold out0_C_3
  rw [View.read_writes_eq_canon _ _ _ (cover0_C_3 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_images _ _ _ _ _ (slab_image h1 h2 h0 0) (slab_image h1 h2 h0 1) (slab_image h1 h2 h0 2) (slab_image h1 h2 h0 3)

include h0 h1 in
/-- The last point: the numbers. -/
theorem out_C_4 (hc0 : ¬cond0_0 i) (hc1 : cond0_1 i) (hc2 : cond0_2 i) : out0_C_4 c i arg1 harg1 arg2 harg2 arg3 harg3 arg4 harg4 arg5 harg5 arg6 harg6 arg7 harg7 arg8 harg8 arg9 harg9 hc0 hc1 hc2 x0 x1 x2 xs0 xs1 = numbers y w := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  exact canon_rows _ _ _ _ _ (slab_row h1 h0 0) (slab_row h1 h0 1) (slab_row h1 h0 2) (slab_row h1 h0 3)

include h0 h1 hn in
/-- The last point: the numbers of pixels per codeword. -/
theorem sout_C_0 (hc0 : ¬cond0_0 i) (hc1 : cond0_1 i) (hc2 : cond0_2 i) (k : Fin 1024) :
    sout0_C_0 c i arg1 harg1 arg2 harg2 arg3 harg3 arg4 harg4 arg5 harg5 arg6 harg6 arg7 harg7 arg8 harg8 arg9 harg9 hc0 hc1 hc2 x0 x1 x2 xs0 xs1 (ix2 k 0) = ((n k + tally y w k : ℝ) : EReal) := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1024x1) hz]
  rw [View.ld_unit_zero (S := S1024x1) hz]
  exact running_tally h1 (y := y) (fun c r => h0 0 c r) (fun c r => h0 1 c r) (fun c r => h0 2 c r) (fun c r => h0 3 c r) xs0 hn k

include h0 h1 hv in
/-- The last point: the sum of the least distances. -/
theorem sout_C_1 (hc0 : ¬cond0_0 i) (hc1 : cond0_1 i) (hc2 : cond0_2 i) (j : S1x1.Idx) :
    sout0_C_1 c i arg1 harg1 arg2 harg2 arg3 harg3 arg4 harg4 arg5 harg5 arg6 harg6 arg7 harg7 arg8 harg8 arg9 harg9 hc0 hc1 hc2 x0 x1 x2 xs0 xs1 j = ((v + squares y w : ℝ) : EReal) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1x1) hz]
  rw [View.ld_unit_zero (S := S1x1) hz]
  exact running_squares h1 (y := y) (fun c r => h0 0 c r) (fun c r => h0 1 c r) (fun c r => h0 2 c r) (fun c r => h0 3 c r) _ (hv _)

include h0 h1 hv in
/-- The last point: the loss. -/
theorem out_C_5 (hc0 : ¬cond0_0 i) (hc1 : cond0_1 i) (hc2 : cond0_2 i) (j : S1x1.Idx) :
    out0_C_5 c i arg1 harg1 arg2 harg2 arg3 harg3 arg4 harg4 arg5 harg5 arg6 harg6 arg7 harg7 arg8 harg8 arg9 harg9 hc0 hc1 hc2 x0 x1 x2 xs0 xs1 j = ((1.25 * (v + squares y w) * (1 / 1048576) : ℝ) : EReal) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1x1) hz, View.ld_unit_zero (S := S1x1) hz,
    running_squares h1 (y := y) (fun c r => h0 0 c r) (fun c r => h0 1 c r) (fun c r => h0 2 c r) (fun c r => h0 3 c r) _ (hv _), lossCell]

include h0 h1 hn in
/-- The last point: the perplexity. -/
theorem out_C_6 (hc0 : ¬cond0_0 i) (hc1 : cond0_1 i) (hc2 : cond0_2 i) (j : S1x1.Idx) :
    out0_C_6 c i arg1 harg1 arg2 harg2 arg3 harg3 arg4 harg4 arg5 harg5 arg6 harg6 arg7 harg7 arg8 harg8 arg9 harg9 hc0 hc1 hc2 x0 x1 x2 xs0 xs1 j = Ideal.exp (-∑ k, (((n k + tally y w k) * (1 / 16384) : ℝ) : EReal)
      * Ideal.log (max (((n k + tally y w k) * (1 / 16384) : ℝ) : EReal) (Ideal.ofBits .f32 0x2EDBE6FF#32))) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 xs0 xs1)]
  unfold kernelRun0_C
  dsimp only
  sl_unfold_words
  simp only [View.readAt_eq_ld, harg1.read_unread, harg2.read_unread, harg3.read_unread, harg8.read_unread, harg9.read_unread,
    View.ld_unit_zero (S := S1024x64) hz, View.ld_unit_zero (S := S64x1024) hz, ld_slab 0 ![0, 0, 0] rfl, ld_slab 1 ![1, 0, 0] rfl,
    ld_slab 2 ![2, 0, 0] rfl, ld_slab 3 ![3, 0, 0] rfl, pay12_eq, pay13_eq, image0, image2, image3, row0, row2, row3]
  rw [View.canon_unit_zero (S := S1x1) hz, View.readCov_unit_zero (S := S1024x1) _ hz, View.ld_unit_zero (S := S1024x1) hz]
  exact perpCell _ _ (running_tally h1 (y := y) (fun c r => h0 0 c r) (fun c r => h0 1 c r) (fun c r => h0 2 c r) (fun c r => h0 3 c r) xs0 hn) j

end
end Cert.KernelIdeal.Value

end
-- ==== Proof.KernelInputs.lean ====
/-
  What the kernel's pipeline finds in its input arrays: the host's operations before it reshape the images, scale the
  codebook by -2 and transpose it. Each grid point then reads four images, and the two codebooks whole.
-/
module
public import proofs.«01_k».proof.Proof.BodyValue
public import Idealize.ShloMosaic.Lib.StableHlo.Run
public import Idealize.ShloMosaic.Lib.StableHlo.RunRead
@[expose] public section
set_option maxRecDepth 16384
noncomputable section
namespace Cert.KernelIdeal.Value
open Cert.KernelIdeal Cert.KernelIdeal.Gen Idealize.ShloMosaic Idealize.ShloMosaic.TcCoe Cert.Nearest

section
variable {F : FTy → Type} [FloatOps F] (m : (ℓ : Loc nD τ sig) → Buf (Elt F) ℓ) (c : Dev nD)

/-- The images the pipeline finds: the first argument, each image's pixels in one row. -/
theorem found_images : V m c main_v0 = shapeCast S16x64x1024 (m ((c : Thread nD τ).loc main_arg0)) shapeCasts_S16x64x32x32_S16x64x1024 := by
  show StableHlo.after hostOps0 _ _ = _
  after_reads_simp <;> rfl

/-- The codebook the pipeline finds first: the second argument times the constant -2. -/
theorem found_scaled : V m c main_v2 = mulf (broadcastInDim S1024x64 ![] bcast_S_S1024x64 (constant (F := F) S_ .f32 0xC0000000#32))
    (m ((c : Thread nD τ).loc main_arg1)) := by
  show StableHlo.after hostOps0 _ _ = _
  after_reads_simp <;> rfl

/-- The codebook the pipeline finds second: the second argument transposed. -/
theorem found_columns : V m c main_v3 = transpose S64x1024 [1, 0] (m ((c : Thread nD τ).loc main_arg1)) transposes_S1024x64_S64x1024_1_0 := by
  show StableHlo.after hostOps0 _ _ = _
  after_reads_simp <;> rfl

end

/-- The four images of block `t`. -/
def part (x : Points) (t : ℕ) (g : Fin 4) : Fin 1024 → Fin 64 → ℝ := x ⟨(4 * t + g.val) % 16, Nat.mod_lt _ (by decide)⟩

section
variable {m : (ℓ : Loc nD τ sig) → Buf (Elt Ideal) ℓ} {c : Dev nD} {x : Points} {w : Codes}

/-- An entry of the images the pipeline finds. -/
theorem found_images_apply
    (hz : ∀ b ch h v, (m ((c : Thread nD τ).loc main_arg0) : Vec Ideal S16x64x32x32 .f32) (ix4 b ch h v) = ((x b (pix h v) ch : ℝ) : EReal))
    (b : Fin 16) (ch : Fin 64) (r : Fin 1024) :
    (V m c main_v0 : Vec Ideal S16x64x1024 .f32) (ix3 b ch r) = ((x b r ch : ℝ) : EReal) := by
  rw [found_images]
  have hr := r.isLt
  rw [shapeCast_apply _ _ _ (ix4 b ch (⟨r.val / 32, by omega⟩ : Fin 32) (⟨r.val % 32, by omega⟩ : Fin 32)), hz]
  · rw [show pix (⟨r.val / 32, by omega⟩ : Fin 32) (⟨r.val % 32, by omega⟩ : Fin 32) = r from Fin.ext (by unfold pix; dsimp only; omega)]
  · refine (Shape.rowMajor_val_four _).trans (Eq.trans ?_ (Shape.rowMajor_val_three _).symm)
    show ((b.val * 64 + ch.val) * 32 + r.val / 32) * 32 + r.val % 32 = (b.val * 64 + ch.val) * 1024 + r.val
    omega

/-- An entry of the scaled codebook. -/
theorem found_scaled_apply
    (he : ∀ k ch, (m ((c : Thread nD τ).loc main_arg1) : Vec Ideal S1024x64 .f32) (ix2 k ch) = ((w k ch : ℝ) : EReal))
    (k : Fin 1024) (ch : Fin 64) : (V m c main_v2 : Vec Ideal S1024x64 .f32) (ix2 k ch) = ((-2 * w k ch : ℝ) : EReal) := by
  rw [found_scaled]
  have hb : ∀ u : Vec Ideal S1024x64 .f32, mulf (broadcastInDim S1024x64 ![] bcast_S_S1024x64 (constant (F := Ideal) S_ .f32 0xC0000000#32)) u (ix2 k ch)
      = Ideal.ofBits .f32 0xC0000000#32 * u (ix2 k ch) := fun u => rfl
  rw [hb, he, Consts.neg_two, ← EReal.coe_mul]

/-- An entry of the transposed codebook. -/
theorem found_columns_apply
    (he : ∀ k ch, (m ((c : Thread nD τ).loc main_arg1) : Vec Ideal S1024x64 .f32) (ix2 k ch) = ((w k ch : ℝ) : EReal))
    (ch : Fin 64) (k : Fin 1024) : (V m c main_v3 : Vec Ideal S64x1024 .f32) (ix2 ch k) = ((w k ch : ℝ) : EReal) := by
  rw [found_columns, transpose_apply _ _ _ _ (ix2 k ch), he]
  intro b
  fin_cases b <;> rfl

/-- What point `t` reads of the images: its four. -/
theorem block_images
    (hz : ∀ b ch h v, (m ((c : Thread nD τ).loc main_arg0) : Vec Ideal S16x64x32x32 .f32) (ix4 b ch h v) = ((x b (pix h v) ch : ℝ) : EReal))
    (t : Fin cfg0.N) (g : Fin 4) (ch : Fin 64) (r : Fin 1024) :
    (iblk m c 0 t : Vec Ideal S4x64x1024 .f32) (ix3 g ch r) = ((part x t.val g r ch : ℝ) : EReal) := by
  have hi : win0_0.index t 0 = t.val ∧ win0_0.index t 1 = 0 ∧ win0_0.index t 2 = 0 := by
    rcases fin_N0 t with rfl | rfl | rfl | rfl <;> decide
  have ht : t.val < 4 := Nat.lt_of_lt_of_eq t.isLt N_0
  refine Eq.trans ?_ (found_images_apply hz ⟨(4 * t.val + g.val) % 16, Nat.mod_lt _ (by decide)⟩ ch r)
  unfold iblk
  rw [View.read_apply]
  show V m c main_v0 _ = V m c main_v0 _
  congr 1
  funext a
  apply Fin.ext
  match a with
  | ⟨0, _⟩ => show win0_0.index t 0 * 4 + 1 * g.val = (4 * t.val + g.val) % 16; rw [hi.1]; omega
  | ⟨1, _⟩ => show win0_0.index t 1 * 64 + 1 * ch.val = ch.val; rw [hi.2.1]; omega
  | ⟨2, _⟩ => show win0_0.index t 2 * 1024 + 1 * r.val = r.val; rw [hi.2.2]; omega

/-- What every point reads of the scaled codebook: all of it. -/
theorem block_scaled
    (he : ∀ k ch, (m ((c : Thread nD τ).loc main_arg1) : Vec Ideal S1024x64 .f32) (ix2 k ch) = ((w k ch : ℝ) : EReal))
    (t : Fin cfg0.N) (k : Fin 1024) (ch : Fin 64) :
    (iblk m c 1 t : Vec Ideal S1024x64 .f32) (ix2 k ch) = ((-2 * w k ch : ℝ) : EReal) := by
  have hi : win0_1.index t 0 = 0 ∧ win0_1.index t 1 = 0 := by
    rcases fin_N0 t with rfl | rfl | rfl | rfl <;> decide
  refine Eq.trans ?_ (found_scaled_apply he k ch)
  unfold iblk
  rw [View.read_apply]
  show V m c main_v2 _ = V m c main_v2 _
  congr 1
  funext a
  apply Fin.ext
  match a with
  | ⟨0, _⟩ => show win0_1.index t 0 * 1024 + 1 * k.val = k.val; rw [hi.1]; omega
  | ⟨1, _⟩ => show win0_1.index t 1 * 64 + 1 * ch.val = ch.val; rw [hi.2]; omega

/-- What every point reads of the transposed codebook: all of it. -/
theorem block_columns
    (he : ∀ k ch, (m ((c : Thread nD τ).loc main_arg1) : Vec Ideal S1024x64 .f32) (ix2 k ch) = ((w k ch : ℝ) : EReal))
    (t : Fin cfg0.N) (ch : Fin 64) (k : Fin 1024) :
    (iblk m c 2 t : Vec Ideal S64x1024 .f32) (ix2 ch k) = ((w k ch : ℝ) : EReal) := by
  have hi : win0_2.index t 0 = 0 ∧ win0_2.index t 1 = 0 := by
    rcases fin_N0 t with rfl | rfl | rfl | rfl <;> decide
  refine Eq.trans ?_ (found_columns_apply he ch k)
  unfold iblk
  rw [View.read_apply]
  show V m c main_v3 _ = V m c main_v3 _
  congr 1
  funext a
  apply Fin.ext
  match a with
  | ⟨0, _⟩ => show win0_2.index t 0 * 64 + 1 * ch.val = ch.val; rw [hi.1]; omega
  | ⟨1, _⟩ => show win0_2.index t 1 * 1024 + 1 * k.val = k.val; rw [hi.2]; omega

end

end Cert.KernelIdeal.Value

end
-- ==== Proof.KernelPoints.lean ====
/-
  What the kernel's body leaves at each of the four grid points: the block's images and numbers, the running counts and
  the running sum of squares over the blocks so far; at the last point also the loss and the perplexity.
-/
module
public import proofs.«01_k».proof.Proof.KernelInputs
@[expose] public section
set_option maxRecDepth 16384
noncomputable section
namespace Cert.KernelIdeal.Value
open Cert.KernelIdeal Cert.KernelIdeal.Gen Idealize.ShloMosaic Idealize.ShloMosaic.TcCoe Cert.Nearest

/-- A codeword's count over the blocks up to block `t`. -/
def tallies (x : Points) (w : Codes) (t : ℕ) (k : Fin 1024) : ℝ := ∑ s ∈ Finset.range (t + 1), tally (part x s) w k
/-- The sum of the least distances over the blocks up to block `t`. -/
def squaresUpTo (x : Points) (w : Codes) (t : ℕ) : ℝ := ∑ s ∈ Finset.range (t + 1), squares (part x s) w

/-- Block 0's count is the first count. -/
theorem tallies_zero (x : Points) (w : Codes) (k : Fin 1024) : tallies x w 0 k = tally (part x 0) w k := by simp [tallies]
/-- Block 0's sum is the first sum. -/
theorem squaresUpTo_zero (x : Points) (w : Codes) : squaresUpTo x w 0 = squares (part x 0) w := by simp [squaresUpTo]
/-- One more block is added to the count. -/
theorem tallies_succ (x : Points) (w : Codes) (t : ℕ) (k : Fin 1024) :
    tallies x w (t + 1) k = tallies x w t k + tally (part x (t + 1)) w k := Finset.sum_range_succ _ _
/-- One more block is added to the sum. -/
theorem squaresUpTo_succ (x : Points) (w : Codes) (t : ℕ) :
    squaresUpTo x w (t + 1) = squaresUpTo x w t + squares (part x (t + 1)) w := Finset.sum_range_succ _ _

/-- A sum over the four blocks' four images is a sum over the sixteen images. -/
theorem sum_parts (f : (Fin 1024 → Fin 64 → ℝ) → ℝ) (x : Points) :
    ∑ s ∈ Finset.range 4, ∑ g, f (part x s g) = ∑ b, f (x b) := by
  simp only [Finset.sum_range_succ, Finset.sum_range_zero, Fin.sum_univ_succ, Fin.sum_univ_zero]
  simp only [part]
  norm_num [Fin.succ]
  ring_nf

/-- The counts over all four blocks are the uses of the codeword. -/
theorem tallies_last (x : Points) (w : Codes) (k : Fin 1024) : tallies x w 3 k = uses x w k :=
  sum_parts (fun u => ∑ r, mark (u r) w k) x
/-- The sum over all four blocks is the total. -/
theorem squaresUpTo_last (x : Points) (w : Codes) : squaresUpTo x w 3 = total x w :=
  sum_parts (fun u => ∑ r, least (u r) w) x

section
variable {m : (ℓ : Loc nD τ sig) → Buf (Elt Ideal) ℓ} {c : Dev nD} {x : Points} {w : Codes}
  (hz : ∀ b ch h v, (m ((c : Thread nD τ).loc main_arg0) : Vec Ideal S16x64x32x32 .f32) (ix4 b ch h v) = ((x b (pix h v) ch : ℝ) : EReal))
  (he : ∀ k ch, (m ((c : Thread nD τ).loc main_arg1) : Vec Ideal S1024x64 .f32) (ix2 k ch) = ((w k ch : ℝ) : EReal))

include hz he in
/-- After point `n`: its block's images and numbers, and the two running totals. -/
theorem after_point (n : ℕ) (hn : n < cfg0.N) :
    (outsAt0 m c n hn).1 = images (part x n) w ∧ (outsAt0 m c n hn).2.1 = numbers (part x n) w
      ∧ (∀ k, (outsAt0 m c n hn).2.2.2.2.1 (ix2 k 0) = ((tallies x w n k : ℝ) : EReal))
      ∧ ∀ j, (outsAt0 m c n hn).2.2.2.2.2 j = ((squaresUpTo x w n : ℝ) : EReal) := by
  induction n with
  | zero =>
    have e := outsAt0_A m c ⟨0, hn⟩ rfl (Nat.not_succ_le_zero 0) (Nat.zero_ne_add_one 2)
    have b0 := block_images hz ⟨0, hn⟩
    have b1 := block_scaled he ⟨0, hn⟩
    have b2 := block_columns he ⟨0, hn⟩
    refine ⟨(congrArg (fun o => o.1) e).trans ?_, (congrArg (fun o => o.2.1) e).trans ?_,
      fun k => (congrArg (fun o => o.2.2.2.2.1 (ix2 k 0)) e).trans ?_, fun j => (congrArg (fun o => o.2.2.2.2.2 j) e).trans ?_⟩
    all_goals clear e; dsimp only
    · exact out_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) b0 b1 b2 _ _ _
    · exact out_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) b0 b1 _ _ _
    · rw [tallies_zero]; exact sout_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) b0 b1 _ _ _ k
    · rw [squaresUpTo_zero]; exact sout_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) b0 b1 _ _ _ j
  | succ n ih =>
    have hN : cfg0.N = 4 := N_0
    obtain ⟨-, -, hc, hs⟩ := ih (Nat.lt_of_succ_lt hn)
    have b0 := block_images hz ⟨n + 1, hn⟩
    have b1 := block_scaled he ⟨n + 1, hn⟩
    have b2 := block_columns he ⟨n + 1, hn⟩
    by_cases h3 : (n + 1) % 4 = 3
    · have e := outsAt0_C m c ⟨n + 1, hn⟩ (by dsimp only; omega) (by dsimp only; omega) h3
      refine ⟨(congrArg (fun o => o.1) e).trans ?_, (congrArg (fun o => o.2.1) e).trans ?_,
        fun k => (congrArg (fun o => o.2.2.2.2.1 (ix2 k 0)) e).trans ?_, fun j => (congrArg (fun o => o.2.2.2.2.2 j) e).trans ?_⟩
      all_goals clear e; dsimp only
      · exact out_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 b2 _ _ _
      · exact out_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 _ _ _
      · rw [tallies_succ]; exact sout_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 hc _ _ _ k
      · rw [squaresUpTo_succ]; exact sout_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 hs _ _ _ j
    · have e := outsAt0_B m c ⟨n + 1, hn⟩ (by dsimp only; omega) (by dsimp only; omega) h3
      refine ⟨(congrArg (fun o => o.1) e).trans ?_, (congrArg (fun o => o.2.1) e).trans ?_,
        fun k => (congrArg (fun o => o.2.2.2.2.1 (ix2 k 0)) e).trans ?_, fun j => (congrArg (fun o => o.2.2.2.2.2 j) e).trans ?_⟩
      all_goals clear e; dsimp only
      · exact out_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 b2 _ _ _
      · exact out_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 _ _ _
      · rw [tallies_succ]; exact sout_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 hc _ _ _ k
      · rw [squaresUpTo_succ]; exact sout_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) b0 b1 hs _ _ _ j

include hz he in
/-- After the last point: the loss. -/
theorem last_loss (j : S1x1.Idx) : (outsAt0 m c 3 t0_3.isLt).2.2.1 j = ((loss x w : ℝ) : EReal) := by
  obtain ⟨-, -, -, hs⟩ := after_point hz he 2 (Nat.lt_of_lt_of_eq (by decide) (show 4 = cfg0.N from N_0.symm))
  have e := outsAt0_C m c t0_3 (by decide) (by decide) (by decide)
  refine (congrArg (fun o => o.2.2.1 j) e).trans ?_
  clear e; dsimp only
  refine Eq.trans (out_C_5 c (grid0.coords t0_3) (ms0_0 t0_3) (hs0_0 t0_3) (ms0_1 t0_3) (hs0_1 t0_3) (ms0_2 t0_3) (hs0_2 t0_3) (ms0_3 t0_3) (hs0_3 t0_3) (ms0_4 t0_3) (hs0_4 t0_3) (ms0_5 t0_3) (hs0_5 t0_3) (ms0_6 t0_3) (hs0_6 t0_3) scM0_0 (Memref.isWhole_whole _) scM0_1 (Memref.isWhole_whole _) (block_images hz t0_3) (block_scaled he t0_3) hs _ _ _ j) ?_
  rw [show squaresUpTo x w 2 + squares (part x (t0_3 : Fin cfg0.N).val) w = total x w from
    (squaresUpTo_succ x w 2).symm.trans (squaresUpTo_last x w)]
  rfl

include hz he in
/-- After the last point: the perplexity. -/
theorem last_perplexity (j : S1x1.Idx) : (outsAt0 m c 3 t0_3.isLt).2.2.2.1 j = perplexity x w := by
  obtain ⟨-, -, hc, -⟩ := after_point hz he 2 (Nat.lt_of_lt_of_eq (by decide) (show 4 = cfg0.N from N_0.symm))
  have e := outsAt0_C m c t0_3 (by decide) (by decide) (by decide)
  refine (congrArg (fun o => o.2.2.2.1 j) e).trans ?_
  clear e; dsimp only
  refine Eq.trans (out_C_6 c (grid0.coords t0_3) (ms0_0 t0_3) (hs0_0 t0_3) (ms0_1 t0_3) (hs0_1 t0_3) (ms0_2 t0_3) (hs0_2 t0_3) (ms0_3 t0_3) (hs0_3 t0_3) (ms0_4 t0_3) (hs0_4 t0_3) (ms0_5 t0_3) (hs0_5 t0_3) (ms0_6 t0_3) (hs0_6 t0_3) scM0_0 (Memref.isWhole_whole _) scM0_1 (Memref.isWhole_whole _) (block_images hz t0_3) (block_scaled he t0_3) hc _ _ _ j) ?_
  have hu : ∀ k, tallies x w 2 k + tally (part x (t0_3 : Fin cfg0.N).val) w k = uses x w k := fun k =>
    (tallies_succ x w 2 k).symm.trans (tallies_last x w k)
  simp only [hu]
  rfl

end

end Cert.KernelIdeal.Value

end
-- ==== Proof.KernelRun.lean ====
/-
  The kernel's run, read at its four results: the pipeline's output arrays from what the points leave, then the reshapes
  after the pipeline.
-/
module
public import proofs.«01_k».proof.Proof.KernelPoints
public import Idealize.ShloMosaic.Lib.Pipeline.Value
public import Idealize.ShloMosaic.Lib.Quiescent
@[expose] public section
set_option maxRecDepth 16384
noncomputable section
namespace Cert.KernelIdeal.Value
open Cert.KernelIdeal Cert.KernelIdeal.Gen Idealize.ShloMosaic Idealize.ShloMosaic.TcCoe Idealize.SL Cert.Nearest

/-- The straight-through images, each image's pixels in one row. -/
def allImages (x : Points) (w : Codes) : Vec Ideal S16x64x1024 .f32 :=
  fun j => ((w (nearest (x (j 0) (j 2)) w) (j 1) : ℝ) : EReal)
/-- The chosen numbers, each image's pixels in one row. -/
def allNumbers (x : Points) (w : Codes) : Vec Ideal S16x1x1024 .i32 :=
  fun j => BitVec.ofNat 32 (nearest (x (j 0) (j 2)) w).val
/-- The loss, as a block of one entry. -/
def lossBlock (x : Points) (w : Codes) : Vec Ideal S1x1 .f32 := fun _ => ((loss x w : ℝ) : EReal)
/-- The perplexity, as a block of one entry. -/
def perplexityBlock (x : Points) (w : Codes) : Vec Ideal S1x1 .f32 := fun _ => perplexity x w

/-- A block's images are the images at the block's place. -/
theorem images_at (x : Points) (w : Codes) (t : ℕ) (j : S4x64x1024.Idx) (i : S16x64x1024.Idx) (h0 : (i 0).val = (4 * t + (j 0).val) % 16)
    (h1 : (i 1).val = (j 1).val) (h2 : (i 2).val = (j 2).val) : images (part x t) w j = allImages x w i := by
  unfold images allImages part
  rw [show (⟨(4 * t + (j 0).val) % 16, Nat.mod_lt _ (by decide)⟩ : Fin 16) = i 0 from Fin.ext h0.symm,
    show (j 1 : Fin 64) = i 1 from Fin.ext h1.symm, show (j 2 : Fin 1024) = i 2 from Fin.ext h2.symm]

/-- A block's numbers are the numbers at the block's place. -/
theorem numbers_at (x : Points) (w : Codes) (t : ℕ) (j : S4x1x1024.Idx) (i : S16x1x1024.Idx) (h0 : (i 0).val = (4 * t + (j 0).val) % 16)
    (h2 : (i 2).val = (j 2).val) : numbers (part x t) w j = allNumbers x w i := by
  unfold numbers allNumbers part
  rw [show (⟨(4 * t + (j 0).val) % 16, Nat.mod_lt _ (by decide)⟩ : Fin 16) = i 0 from Fin.ext h0.symm,
    show (j 2 : Fin 1024) = i 2 from Fin.ext h2.symm]

/-- Where the block of images of a point lies, in blocks. -/
theorem index_images (t : Fin cfg0.N) : win0_3.index t 0 = t.val ∧ win0_3.index t 1 = 0 ∧ win0_3.index t 2 = 0 := by
  rcases fin_N0 t with rfl | rfl | rfl | rfl <;> decide
/-- Where the block of numbers of a point lies, in blocks. -/
theorem index_numbers (t : Fin cfg0.N) : win0_4.index t 0 = t.val ∧ win0_4.index t 1 = 0 ∧ win0_4.index t 2 = 0 := by
  rcases fin_N0 t with rfl | rfl | rfl | rfl <;> decide

section
variable {m : (ℓ : Loc nD τ sig) → Buf (Elt Ideal) ℓ} {c : Dev nD} {x : Points} {w : Codes}
  (hz : ∀ b ch h v, (m ((c : Thread nD τ).loc main_arg0) : Vec Ideal S16x64x32x32 .f32) (ix4 b ch h v) = ((x b (pix h v) ch : ℝ) : EReal))
  (he : ∀ k ch, (m ((c : Thread nD τ).loc main_arg1) : Vec Ideal S1024x64 .f32) (ix2 k ch) = ((w k ch : ℝ) : EReal))

include hz he in
/-- Each point writes its block of the images. -/
theorem flushed_images (t : Fin cfg0.N) (_ : (cfg0.win 3).flush t = true) :
    (dats m 0 c).flushed 3 t = ((cfg0.win 3).blk t).view.read (Elt Ideal) (allImages x w) := by
  have hi := index_images t
  have ht : t.val < 4 := Nat.lt_of_lt_of_eq t.isLt N_0
  show (cfg0.win 3).cut (grid0.coords t) ((dats m 0 c).after 3 t) = _
  rw [after0_3, (after_point hz he t.val t.isLt).1]
  funext j
  rw [View.read_apply]
  have hj : (j 0).val < 4 := (j 0).isLt
  refine images_at x w t.val j _ ?_ ?_ ?_
  · show win0_3.index t 0 * 4 + 1 * (j 0).val = (4 * t.val + (j 0).val) % 16; rw [hi.1]; omega
  · show win0_3.index t 1 * 64 + 1 * (j 1).val = (j 1).val; rw [hi.2.1]; omega
  · show win0_3.index t 2 * 1024 + 1 * (j 2).val = (j 2).val; rw [hi.2.2]; omega

include hz he in
/-- So the array of images ends with all of them. -/
theorem final_images : (dats m 0 c).arrAt 3 cfg0.N = allImages x w :=
  (dats m 0 c).arrAt_eq_of_cover 3 (allImages x w) (flushed_images hz he) fun i => by
    have h0 : (i 0 : Nat) < 16 := (i 0).isLt
    have h1 : (i 1 : Nat) < 64 := (i 1).isLt
    have h2 : (i 2 : Nat) < 1024 := (i 2).isLt
    have ht : (i 0 : Nat) / 4 < cfg0.N := Nat.lt_of_lt_of_eq (by omega) N_0.symm
    have hi := index_images ⟨(i 0 : Nat) / 4, ht⟩
    refine ⟨⟨(i 0 : Nat) / 4, ht⟩, flush0_3 _, ?_⟩
    show i ∈ ((View.whole main_v4_0).slice (win0_3.rect ⟨(i 0 : Nat) / 4, ht⟩)).set
    rw [View.set_slice_whole, Rect.mem_set_unit]
    intro a
    match a with
    | ⟨0, _⟩ => show win0_3.index ⟨(i 0 : Nat) / 4, ht⟩ 0 * 4 ≤ (i 0 : Nat) ∧ (i 0 : Nat) < win0_3.index ⟨(i 0 : Nat) / 4, ht⟩ 0 * 4 + 4
                rw [hi.1]; dsimp only; omega
    | ⟨1, _⟩ => show win0_3.index ⟨(i 0 : Nat) / 4, ht⟩ 1 * 64 ≤ (i 1 : Nat) ∧ (i 1 : Nat) < win0_3.index ⟨(i 0 : Nat) / 4, ht⟩ 1 * 64 + 64
                rw [hi.2.1]; omega
    | ⟨2, _⟩ => show win0_3.index ⟨(i 0 : Nat) / 4, ht⟩ 2 * 1024 ≤ (i 2 : Nat) ∧ (i 2 : Nat) < win0_3.index ⟨(i 0 : Nat) / 4, ht⟩ 2 * 1024 + 1024
                rw [hi.2.2]; omega

include hz he in
/-- Each point writes its block of the numbers. -/
theorem flushed_numbers (t : Fin cfg0.N) (_ : (cfg0.win 4).flush t = true) :
    (dats m 0 c).flushed 4 t = ((cfg0.win 4).blk t).view.read (Elt Ideal) (allNumbers x w) := by
  have hi := index_numbers t
  have ht : t.val < 4 := Nat.lt_of_lt_of_eq t.isLt N_0
  show (cfg0.win 4).cut (grid0.coords t) ((dats m 0 c).after 4 t) = _
  rw [after0_4, (after_point hz he t.val t.isLt).2.1]
  funext j
  rw [View.read_apply]
  have hj : (j 0).val < 4 := (j 0).isLt
  refine numbers_at x w t.val j _ ?_ ?_
  · show win0_4.index t 0 * 4 + 1 * (j 0).val = (4 * t.val + (j 0).val) % 16; rw [hi.1]; omega
  · show win0_4.index t 2 * 1024 + 1 * (j 2).val = (j 2).val; rw [hi.2.2]; omega

include hz he in
/-- So the array of numbers ends with all of them. -/
theorem final_numbers : (dats m 0 c).arrAt 4 cfg0.N = allNumbers x w :=
  (dats m 0 c).arrAt_eq_of_cover 4 (allNumbers x w) (flushed_numbers hz he) fun i => by
    have h0 : (i 0 : Nat) < 16 := (i 0).isLt
    have h1 : (i 1 : Nat) < 1 := (i 1).isLt
    have h2 : (i 2 : Nat) < 1024 := (i 2).isLt
    have ht : (i 0 : Nat) / 4 < cfg0.N := Nat.lt_of_lt_of_eq (by omega) N_0.symm
    have hi := index_numbers ⟨(i 0 : Nat) / 4, ht⟩
    refine ⟨⟨(i 0 : Nat) / 4, ht⟩, flush0_4 _, ?_⟩
    show i ∈ ((View.whole main_v4_1).slice (win0_4.rect ⟨(i 0 : Nat) / 4, ht⟩)).set
    rw [View.set_slice_whole, Rect.mem_set_unit]
    intro a
    match a with
    | ⟨0, _⟩ => show win0_4.index ⟨(i 0 : Nat) / 4, ht⟩ 0 * 4 ≤ (i 0 : Nat) ∧ (i 0 : Nat) < win0_4.index ⟨(i 0 : Nat) / 4, ht⟩ 0 * 4 + 4
                rw [hi.1]; dsimp only; omega
    | ⟨1, _⟩ => show win0_4.index ⟨(i 0 : Nat) / 4, ht⟩ 1 * 1 ≤ (i 1 : Nat) ∧ (i 1 : Nat) < win0_4.index ⟨(i 0 : Nat) / 4, ht⟩ 1 * 1 + 1
                rw [hi.2.1]; omega
    | ⟨2, _⟩ => show win0_4.index ⟨(i 0 : Nat) / 4, ht⟩ 2 * 1024 ≤ (i 2 : Nat) ∧ (i 2 : Nat) < win0_4.index ⟨(i 0 : Nat) / 4, ht⟩ 2 * 1024 + 1024
                rw [hi.2.2]; omega

include hz he in
/-- The last point writes the loss. -/
theorem flushed_loss (t : Fin cfg0.N) (hf : (cfg0.win 5).flush t = true) :
    (dats m 0 c).flushed 5 t = ((cfg0.win 5).blk t).view.read (Elt Ideal) (lossBlock x w) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5]
  funext j
  rw [View.read_apply]
  exact last_loss hz he j

include hz he in
/-- So the array of the loss ends with the loss. -/
theorem final_loss : (dats m 0 c).arrAt 5 cfg0.N = lossBlock x w :=
  (dats m 0 c).arrAt_eq_of_cover 5 (lossBlock x w) (flushed_loss hz he) fun i => by
    refine ⟨t0_3, (flush0_5 t0_3).mpr rfl, ?_⟩
    show i ∈ ((View.whole main_v4_2).slice (win0_5.rect t0_3)).set
    rw [View.set_slice_whole, Rect.mem_set_unit]
    intro a
    have h0 : (i 0 : Nat) < 1 := (i 0).isLt
    have h1 : (i 1 : Nat) < 1 := (i 1).isLt
    match a with
    | ⟨0, _⟩ => show win0_5.index t0_3 0 * 1 ≤ (i 0 : Nat) ∧ (i 0 : Nat) < win0_5.index t0_3 0 * 1 + 1
                rw [show win0_5.index t0_3 0 = 0 from by decide]; omega
    | ⟨1, _⟩ => show win0_5.index t0_3 1 * 1 ≤ (i 1 : Nat) ∧ (i 1 : Nat) < win0_5.index t0_3 1 * 1 + 1
                rw [show win0_5.index t0_3 1 = 0 from by decide]; omega

include hz he in
/-- The last point writes the perplexity. -/
theorem flushed_perplexity (t : Fin cfg0.N) (hf : (cfg0.win 6).flush t = true) :
    (dats m 0 c).flushed 6 t = ((cfg0.win 6).blk t).view.read (Elt Ideal) (perplexityBlock x w) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6]
  funext j
  rw [View.read_apply]
  exact last_perplexity hz he j

include hz he in
/-- So the array of the perplexity ends with the perplexity. -/
theorem final_perplexity : (dats m 0 c).arrAt 6 cfg0.N = perplexityBlock x w :=
  (dats m 0 c).arrAt_eq_of_cover 6 (perplexityBlock x w) (flushed_perplexity hz he) fun i => by
    refine ⟨t0_3, (flush0_6 t0_3).mpr rfl, ?_⟩
    show i ∈ ((View.whole main_v4_3).slice (win0_6.rect t0_3)).set
    rw [View.set_slice_whole, Rect.mem_set_unit]
    intro a
    have h0 : (i 0 : Nat) < 1 := (i 0).isLt
    have h1 : (i 1 : Nat) < 1 := (i 1).isLt
    match a with
    | ⟨0, _⟩ => show win0_6.index t0_3 0 * 1 ≤ (i 0 : Nat) ∧ (i 0 : Nat) < win0_6.index t0_3 0 * 1 + 1
                rw [show win0_6.index t0_3 0 = 0 from by decide]; omega
    | ⟨1, _⟩ => show win0_6.index t0_3 1 * 1 ≤ (i 1 : Nat) ∧ (i 1 : Nat) < win0_6.index t0_3 1 * 1 + 1
                rw [show win0_6.index t0_3 1 = 0 from by decide]; omega

end

/-! ## The reshapes after the pipeline -/

section
variable {F : FTy → Type} [FloatOps F] (V : Valuation τ sig (Elt F))

/-- The images, each in its rows and columns. -/
theorem reshaped_images : StableHlo.after hostOps1 V (Proc.devRef .tc main_v5)
    = shapeCast S16x64x32x32 (V (Proc.devRef .tc main_v4_0)) shapeCasts_S16x64x1024_S16x64x32x32 := by
  after_reads_simp <;> rfl
/-- The numbers, each image in its rows and columns. -/
theorem reshaped_numbers : StableHlo.after hostOps1 V (Proc.devRef .tc main_v6)
    = shapeCast S16x32x32 (V (Proc.devRef .tc main_v4_1)) shapeCasts_S16x1x1024_S16x32x32 := by
  after_reads_simp <;> rfl
/-- The loss, as a scalar. -/
theorem reshaped_loss : StableHlo.after hostOps1 V (Proc.devRef .tc main_v7)
    = shapeCast S_ (V (Proc.devRef .tc main_v4_2)) shapeCasts_S1x1_S_ := by
  after_reads_simp <;> rfl
/-- The perplexity, as a scalar. -/
theorem reshaped_perplexity : StableHlo.after hostOps1 V (Proc.devRef .tc main_v8)
    = shapeCast S_ (V (Proc.devRef .tc main_v4_3)) shapeCasts_S1x1_S_ := by
  after_reads_simp <;> rfl

end

/-- An output array after the pipeline holds what the points left in it. -/
theorem arrays_after {F : FTy → Type} [FloatOps F] (m : (ℓ : Loc nD τ sig) → Buf (Elt F) ℓ) (c : Dev nD) (w : Fin 7) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c (V0 m c) _ w

/-- Every weakly fair execution of the kernel ends, on real points and codewords, with the straight-through images, the
    chosen numbers, the loss and the perplexity; the arguments as they were, and every semaphore counter at zero. -/
theorem run (m : (ℓ : Loc nD τ sig) → Buf (Elt Ideal) ℓ) (ρ : Dev nD → PrngReg) (x : Dev nD → Points) (w : Dev nD → Codes)
    (hz : ∀ (c : Dev nD) b ch h v, (m ((c : Thread nD τ).loc main_arg0) : Vec Ideal S16x64x32x32 .f32) (ix4 b ch h v)
      = ((x c b (pix h v) ch : ℝ) : EReal))
    (he : ∀ (c : Dev nD) k ch, (m ((c : Thread nD τ).loc main_arg1) : Vec Ideal S1024x64 .f32) (ix2 k ch) = ((w c k ch : ℝ) : EReal)) :
    θ_run defs (onTc (τ := τ) (main (F := Ideal))) ⟨m, fun _ => 0, ρ⟩ fun r => (∀ c : Dev nD,
      r.2.mem ((c : Thread nD τ).loc main_v5) = shapeCast S16x64x32x32 (allImages (x c) (w c)) shapeCasts_S16x64x1024_S16x64x32x32
      ∧ r.2.mem ((c : Thread nD τ).loc main_v6) = shapeCast S16x32x32 (allNumbers (x c) (w c)) shapeCasts_S16x1x1024_S16x32x32
      ∧ r.2.mem ((c : Thread nD τ).loc main_v7) = shapeCast S_ (lossBlock (x c) (w c)) shapeCasts_S1x1_S_
      ∧ r.2.mem ((c : Thread nD τ).loc main_v8) = shapeCast S_ (perplexityBlock (x c) (w c)) shapeCasts_S1x1_S_
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c =>
    ⟨((h.1 c).2 main_v5 (Pipeline.mem_restRefs_of main_v5 (by decide) (by decide))).trans
        ((reshaped_images _).trans (congrArg (fun u => shapeCast S16x64x32x32 u shapeCasts_S16x64x1024_S16x64x32x32)
          ((arrays_after m c 3).trans (final_images (hz c) (he c))))),
      ((h.1 c).2 main_v6 (Pipeline.mem_restRefs_of main_v6 (by decide) (by decide))).trans
        ((reshaped_numbers _).trans (congrArg (fun u => shapeCast S16x32x32 u shapeCasts_S16x1x1024_S16x32x32)
          ((arrays_after m c 4).trans (final_numbers (hz c) (he c))))),
      ((h.1 c).2 main_v7 (Pipeline.mem_restRefs_of main_v7 (by decide) (by decide))).trans
        ((reshaped_loss _).trans (congrArg (fun u => shapeCast S_ u shapeCasts_S1x1_S_)
          ((arrays_after m c 5).trans (final_loss (hz c) (he c))))),
      ((h.1 c).2 main_v8 (Pipeline.mem_restRefs_of main_v8 (by decide) (by decide))).trans
        ((reshaped_perplexity _).trans (congrArg (fun u => shapeCast S_ u shapeCasts_S1x1_S_)
          ((arrays_after m c 6).trans (final_perplexity (hz c) (he c))))),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩)
    (run_main_quiescent m ρ)

end Cert.KernelIdeal.Value

end
-- ==== Proof.Finite.lean ====
/-
  What the precondition says: every entry of the two arguments is a real number.
-/
module
public import proofs.«01_k».proof.Proof.KernelRun
public import proofs.«01_k».proof.Pre_all_finite
@[expose] public section
set_option maxRecDepth 16384
noncomputable section
namespace Cert.Pre_all_finite
open Idealize.ShloMosaic

/-- The two side conditions of the precondition's program. -/
theorem facts : Facts := ⟨by decide, by decide⟩

/-- An extended real whose absolute value is less than infinity is a real number. -/
theorem real_of_abs_lt (a : EReal) (h : Ideal.cmp .olt (max a (-a)) (Ideal.ofBits .f32 0x7F800000#32) = 1#1) : ((a.toReal : ℝ) : EReal) = a := by
  rw [Consts.infinity] at h
  refine EReal.coe_toReal (fun e => ?_) (fun e => ?_) <;> subst e <;> simp [Ideal.cmp] at h

variable [Facts] {z : FVec Ideal S16x64x32x32 .f32} {e : FVec Ideal S1024x64 .f32}

/-- Every entry of the images is a real number. -/
theorem images_real (h : (fn (F := Ideal) z e).1 = fun _ => 1#1) (j : S16x64x32x32.Idx) : (((z j).toReal : ℝ) : EReal) = z j :=
  real_of_abs_lt _ (congrFun h j)

/-- Every entry of the codebook is a real number. -/
theorem codes_real (h : (fn (F := Ideal) z e).2 = fun _ => 1#1) (j : S1024x64.Idx) : (((e j).toReal : ℝ) : EReal) = e j :=
  real_of_abs_lt _ (congrFun h j)

end Cert.Pre_all_finite

end
-- ==== Proof.Equation.lean ====
/-
  The kernel and the reference agree: on arguments whose entries are real numbers, both runs end with the same four
  results.
-/
module
public import proofs.«01_k».proof.Proof.Finite
public import proofs.«01_k».proof.Defs
@[expose] public section
set_option maxRecDepth 16384
noncomputable section
namespace Cert.Proof
open Idealize.ShloMosaic Idealize.SL.Sem Cert.Nearest

/-- The points of an array of images: image, pixel, channel. -/
def pointsOf (z : FVec Ideal Cert.KernelIdeal.S16x64x32x32 .f32) : Points := fun b p ch =>
  (z (ix4 b ch (⟨p.val / 32, by omega⟩ : Fin 32) (⟨p.val % 32, by omega⟩ : Fin 32))).toReal
/-- The codewords of a codebook. -/
def codesOf (e : FVec Ideal Cert.KernelIdeal.S1024x64 .f32) : Codes := fun k ch => (e (ix2 k ch)).toReal

/-- A real entry of the images is the point's. -/
theorem pointsOf_spec {z : FVec Ideal Cert.KernelIdeal.S16x64x32x32 .f32} (hz : ∀ j, (((z j).toReal : ℝ) : EReal) = z j)
    (b : Fin 16) (ch : Fin 64) (h v : Fin 32) : z (ix4 b ch h v) = ((pointsOf z b (pix h v) ch : ℝ) : EReal) := by
  unfold pointsOf
  rw [show (⟨(pix h v).val / 32, by omega⟩ : Fin 32) = h from Fin.ext (by simp only [pix]; omega),
    show (⟨(pix h v).val % 32, by omega⟩ : Fin 32) = v from Fin.ext (by simp only [pix]; omega), hz]

/-- A real entry of the codebook is the codeword's. -/
theorem codesOf_spec {e : FVec Ideal Cert.KernelIdeal.S1024x64 .f32} (he : ∀ j, (((e j).toReal : ℝ) : EReal) = e j)
    (k : Fin 1024) (ch : Fin 64) : e (ix2 k ch) = ((codesOf e k ch : ℝ) : EReal) := (he _).symm

section
variable {x : Points} {w : Codes} {z : FVec Ideal Cert.ReferenceIdeal.S16x64x32x32 .f32} {e : FVec Ideal Cert.ReferenceIdeal.S1024x64 .f32}
  (hz : ∀ b c h v, z (ix4 b c h v) = ((x b (pix h v) c : ℝ) : EReal)) (he : ∀ k c, e (ix2 k c) = ((w k c : ℝ) : EReal))
include hz he

/-- The images agree. -/
theorem images_eq : Cert.ReferenceIdeal.Value.through z (Cert.ReferenceIdeal.Value.quantised z e)
    = shapeCast Cert.KernelIdeal.S16x64x32x32 (Cert.KernelIdeal.Value.allImages x w) Cert.KernelIdeal.Gen.shapeCasts_S16x64x1024_S16x64x32x32 := by
  funext j
  obtain ⟨b, ch, h, v, rfl⟩ : ∃ (b : Fin 16) (ch : Fin 64) (h v : Fin 32), ix4 b ch h v = j := ⟨j 0, j 1, j 2, j 3, (eq_ix4 j).symm⟩
  rw [Cert.ReferenceIdeal.Value.through_apply hz he, shapeCast_apply _ _ _ (ix3 b ch (pix h v))]
  · rfl
  · refine (Shape.rowMajor_val_three _).trans (Eq.trans ?_ (Shape.rowMajor_val_four _).symm)
    show (b.val * 64 + ch.val) * 1024 + (h.val * 32 + v.val) = ((b.val * 64 + ch.val) * 32 + h.val) * 32 + v.val
    omega

/-- The numbers agree. -/
theorem numbers_eq : shapeCast Cert.ReferenceIdeal.S16x32x32 (Cert.ReferenceIdeal.Value.idx z e) Cert.ReferenceIdeal.Gen.shapeCasts_S16384_S16x32x32
    = shapeCast Cert.KernelIdeal.S16x32x32 (Cert.KernelIdeal.Value.allNumbers x w) Cert.KernelIdeal.Gen.shapeCasts_S16x1x1024_S16x32x32 := by
  funext j
  obtain ⟨b, h, v, rfl⟩ : ∃ (b : Fin 16) (h v : Fin 32), ix3 b h v = j := ⟨j 0, j 1, j 2, (eq_ix3 j).symm⟩
  refine (Cert.ReferenceIdeal.Value.idxImages_apply hz he b h v).trans (Eq.symm ?_)
  rw [shapeCast_apply _ _ _ (ix3 b (0 : Fin 1) (pix h v))]
  · rfl
  · refine (Shape.rowMajor_val_three _).trans (Eq.trans ?_ (Shape.rowMajor_val_three _).symm)
    show (b.val * 1 + 0) * 1024 + (h.val * 32 + v.val) = (b.val * 32 + h.val) * 32 + v.val
    omega

/-- The losses agree. -/
theorem loss_eq : Cert.ReferenceIdeal.Value.lossOf z (Cert.ReferenceIdeal.Value.quantised z e)
    = shapeCast Cert.KernelIdeal.S_ (Cert.KernelIdeal.Value.lossBlock x w) Cert.KernelIdeal.Gen.shapeCasts_S1x1_S_ :=
  (Cert.ReferenceIdeal.Value.loss_apply hz he).trans rfl

/-- The perplexities agree. -/
theorem perplexity_eq : Cert.ReferenceIdeal.Value.perpOf (Cert.ReferenceIdeal.Value.share (F := Ideal) (Cert.ReferenceIdeal.Value.idx z e))
    = shapeCast Cert.KernelIdeal.S_ (Cert.KernelIdeal.Value.perplexityBlock x w) Cert.KernelIdeal.Gen.shapeCasts_S1x1_S_ :=
  (Cert.ReferenceIdeal.Value.perp_apply hz he).trans rfl

end

/-- From memories that agree on arguments with real entries, both programs run and end with equal results, the arguments
    as they were. -/
theorem equation [Cert.Pre_all_finite.Facts] :
    algebraic_KernelIdeal_ReferenceIdeal_pre_all_finite (hKernelIdeal := Cert.KernelIdeal.Gen.facts)
      (hReferenceIdeal := Cert.ReferenceIdeal.Gen.facts) := by
  intro m g m' g' hpre hargs
  have hz : ∀ c : Dev Cert.KernelIdeal.nD, ∀ b ch h v,
      (m ((c.tc : Thread Cert.KernelIdeal.nD Cert.KernelIdeal.τ).loc Cert.KernelIdeal.main_arg0) : FVec Ideal Cert.KernelIdeal.S16x64x32x32 .f32) (ix4 b ch h v)
        = ((pointsOf (m ((c.tc : Thread Cert.KernelIdeal.nD Cert.KernelIdeal.τ).loc Cert.KernelIdeal.main_arg0)) b (pix h v) ch : ℝ) : EReal) :=
    fun c => pointsOf_spec (Cert.Pre_all_finite.images_real (hpre c).1)
  have he : ∀ c : Dev Cert.KernelIdeal.nD, ∀ k ch,
      (m ((c.tc : Thread Cert.KernelIdeal.nD Cert.KernelIdeal.τ).loc Cert.KernelIdeal.main_arg1) : FVec Ideal Cert.KernelIdeal.S1024x64 .f32) (ix2 k ch)
        = ((codesOf (m ((c.tc : Thread Cert.KernelIdeal.nD Cert.KernelIdeal.τ).loc Cert.KernelIdeal.main_arg1)) k ch : ℝ) : EReal) :=
    fun c => codesOf_spec (Cert.Pre_all_finite.codes_real (hpre c).2)
  let x : Dev Cert.KernelIdeal.nD → Points := fun c =>
    pointsOf (m ((c.tc : Thread Cert.KernelIdeal.nD Cert.KernelIdeal.τ).loc Cert.KernelIdeal.main_arg0))
  let w : Dev Cert.KernelIdeal.nD → Codes := fun c =>
    codesOf (m ((c.tc : Thread Cert.KernelIdeal.nD Cert.KernelIdeal.τ).loc Cert.KernelIdeal.main_arg1))
  refine ⟨fun c => shapeCast Cert.KernelIdeal.S16x64x32x32 (Cert.KernelIdeal.Value.allImages (x c) (w c)) Cert.KernelIdeal.Gen.shapeCasts_S16x64x1024_S16x64x32x32,
    fun c => shapeCast Cert.KernelIdeal.S_ (Cert.KernelIdeal.Value.lossBlock (x c) (w c)) Cert.KernelIdeal.Gen.shapeCasts_S1x1_S_,
    fun c => shapeCast Cert.KernelIdeal.S_ (Cert.KernelIdeal.Value.perplexityBlock (x c) (w c)) Cert.KernelIdeal.Gen.shapeCasts_S1x1_S_,
    fun c => shapeCast Cert.KernelIdeal.S16x32x32 (Cert.KernelIdeal.Value.allNumbers (x c) (w c)) Cert.KernelIdeal.Gen.shapeCasts_S16x1x1024_S16x32x32,
    (θ_run _ _ _).mono (fun r h c => ?_) (Cert.KernelIdeal.Value.run m g x w hz he),
    (θ_run _ _ _).mono (fun r h c => ?_) (Cert.ReferenceIdeal.Value.run (F := Ideal) m' g')⟩
  · obtain ⟨h5, h6, h7, h8, h0, h1⟩ := h.1 c
    exact ⟨h5, h7, h8, h6, h0, h1⟩
  · obtain ⟨h31, h29, h42, h43, h0, h1⟩ := h.1 c
    rw [(hargs c).1, (hargs c).2] at h31 h29 h42 h43
    exact ⟨h31.trans (images_eq (hz c) (he c)), h29.trans (loss_eq (hz c) (he c)),
      h42.trans (perplexity_eq (hz c) (he c)), h43.trans (numbers_eq (hz c) (he c)), h0, h1⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, its arguments end unchanged, and every semaphore counter ends at zero. -/
theorem reference_frame : quiescent_ReferenceIdeal (hReferenceIdeal := Cert.ReferenceIdeal.Gen.facts) := fun m ρ _ =>
  (θ_run _ _ _).mono (fun _ h => ⟨fun c => (h.1 c).2.2.2.2, h.2⟩) (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Pre_all_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial,
    have := Cert.Pre_all_finite.facts; equation⟩

end Cert.Proof

end
